-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_inf" .f32 0xF149F2CA#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16x2048x128 : Shape := ⟨3, ![16, 2048, 128]⟩
abbrev S16x256 : Shape := ⟨2, ![16, 256]⟩
abbrev S16 : Shape := ⟨1, ![16]⟩
abbrev S128x128 : Shape := ⟨2, ![128, 128]⟩
abbrev S_ : Shape := ⟨0, ![]⟩

class Facts : Prop where
  bcast_S_S16x2048x128 : S_.BroadcastsInDim S16x2048x128 (![] : Fin 0 → Fin S16x2048x128.rank)
  bcast_S_S16x256 : S_.BroadcastsInDim S16x256 (![] : Fin 0 → Fin S16x256.rank)
  bcast_S_S16 : S_.BroadcastsInDim S16 (![] : Fin 0 → Fin S16.rank)
  bcast_S_S128x128 : S_.BroadcastsInDim S128x128 (![] : Fin 0 → Fin S128x128.rank)

variable [Facts]

def fn_part1 {F : FTy → Type} [FloatOps F] (main_arg3 : IVec S16 32) (main_arg4 : FVec F S128x128 .f32) (main_v4 : IVec S16x2048x128 1) (main_v9 : IVec S16x256 1) (main_v14 : IVec S16 1) (main_v16 : IVec S16 1) : IVec S16x2048x128 1 × IVec S16x256 1 × IVec S16 1 × IVec S16 1 × IVec S128x128 1 :=
  let main_c_5 : IVec S_ 32 := constantI S_ 32 256#32
  let main_v17 : IVec S16 32 := broadcastInDim S16 ![] bcast_S_S16 main_c_5
  let main_v18 : IVec S16 1 := cmpi .sle main_arg3 main_v17
  let main_v19 : IVec S16 1 := andi main_v16 main_v18
  let main_cst_6 : FVec F S_ .f32 := constant S_ .f32 0xFF800000#32
  let main_v20 : FVec F S128x128 .f32 := broadcastInDim S128x128 ![] bcast_S_S128x128 main_cst_6
  let main_v21 : IVec S128x128 1 := cmpf .ogt main_arg4 main_v20
  let main_cst_7 : FVec F S_ .f32 := constant S_ .f32 0x7F800000#32
  let main_v22 : FVec F S128x128 .f32 := broadcastInDim S128x128 ![] bcast_S_S128x128 main_cst_7
  let main_v23 : IVec S128x128 1 := cmpf .olt main_arg4 main_v22
  let main_v24 : IVec S128x128 1 := andi main_v21 main_v23
  (main_v4, main_v9, main_v14, main_v19, main_v24)

def fn {F : FTy → Type} [FloatOps F] (main_arg0 : FVec F S16x2048x128 .f32) (main_arg1 : IVec S16x256 32) (main_arg2 : IVec S16 32) (main_arg3 : IVec S16 32) (main_arg4 : FVec F S128x128 .f32) : IVec S16x2048x128 1 × IVec S16x256 1 × IVec S16 1 × IVec S16 1 × IVec S128x128 1 :=
  let main_cst : FVec F S_ .f32 := constant S_ .f32 0xFF800000#32
  let main_v0 : FVec F S16x2048x128 .f32 := broadcastInDim S16x2048x128 ![] bcast_S_S16x2048x128 main_cst
  let main_v1 : IVec S16x2048x128 1 := cmpf .ogt main_arg0 main_v0
  let main_cst_0 : FVec F S_ .f32 := constant S_ .f32 0x7F800000#32
  let main_v2 : FVec F S16x2048x128 .f32 := broadcastInDim S16x2048x128 ![] bcast_S_S16x2048x128 main_cst_0
  let main_v3 : IVec S16x2048x128 1 := cmpf .olt main_arg0 main_v2
  let main_v4 : IVec S16x2048x128 1 := andi main_v1 main_v3
  let main_c : IVec S_ 32 := constantI S_ 32 1#32
  let main_v5 : IVec S16x256 32 := broadcastInDim S16x256 ![] bcast_S_S16x256 main_c
  let main_v6 : IVec S16x256 1 := cmpi .sge main_arg1 main_v5
  let main_c_1 : IVec S_ 32 := constantI S_ 32 128#32
  let main_v7 : IVec S16x256 32 := broadcastInDim S16x256 ![] bcast_S_S16x256 main_c_1
  let main_v8 : IVec S16x256 1 := cmpi .slt main_arg1 main_v7
  let main_v9 : IVec S16x256 1 := andi main_v6 main_v8
  let main_c_2 : IVec S_ 32 := constantI S_ 32 1024#32
  let main_v10 : IVec S16 32 := broadcastInDim S16 ![] bcast_S_S16 main_c_2
  let main_v11 : IVec S16 1 := cmpi .sge main_arg2 main_v10
  let main_c_3 : IVec S_ 32 := constantI S_ 32 2048#32
  let main_v12 : IVec S16 32 := broadcastInDim S16 ![] bcast_S_S16 main_c_3
  let main_v13 : IVec S16 1 := cmpi .sle main_arg2 main_v12
  let main_v14 : IVec S16 1 := andi main_v11 main_v13
  let main_c_4 : IVec S_ 32 := constantI S_ 32 64#32
  let main_v15 : IVec S16 32 := broadcastInDim S16 ![] bcast_S_S16 main_c_4
  let main_v16 : IVec S16 1 := cmpi .sge main_arg3 main_v15
  fn_part1 (F := F) main_arg3 main_arg4 main_v4 main_v9 main_v14 main_v16
-- ==== Kernel.lean ====
abbrev S16x2048x128 : Shape := ⟨3, ![16, 2048, 128]⟩
abbrev S16x256 : Shape := ⟨2, ![16, 256]⟩
abbrev S16 : Shape := ⟨1, ![16]⟩
abbrev S128x128 : Shape := ⟨2, ![128, 128]⟩
abbrev S_ : Shape := ⟨0, ![]⟩
abbrev S16x384 : Shape := ⟨2, ![16, 384]⟩
abbrev S1 : Shape := ⟨1, ![1]⟩
abbrev S384 : Shape := ⟨1, ![384]⟩
abbrev S384x1 : Shape := ⟨2, ![384, 1]⟩
abbrev S16x1 : Shape := ⟨2, ![16, 1]⟩
abbrev S1x1 : Shape := ⟨2, ![1, 1]⟩
abbrev S16x256x128 : Shape := ⟨3, ![16, 256, 128]⟩
abbrev S16x128x384 : Shape := ⟨3, ![16, 128, 384]⟩
abbrev S16x256x384 : Shape := ⟨3, ![16, 256, 384]⟩
abbrev S16x128 : Shape := ⟨2, ![16, 128]⟩
abbrev S16x1x384 : Shape := ⟨3, ![16, 1, 384]⟩
abbrev S16x127 : Shape := ⟨2, ![16, 127]⟩
abbrev S16x1x128 : Shape := ⟨3, ![16, 1, 128]⟩
abbrev S1x384 : Shape := ⟨2, ![1, 384]⟩
abbrev S1x256x128 : Shape := ⟨3, ![1, 256, 128]⟩
abbrev S256x128 : Shape := ⟨2, ![256, 128]⟩
abbrev S1x128x384 : Shape := ⟨3, ![1, 128, 384]⟩
abbrev S128x384 : Shape := ⟨2, ![128, 384]⟩
abbrev S256x384 : Shape := ⟨2, ![256, 384]⟩
abbrev S1x256x384 : Shape := ⟨3, ![1, 256, 384]⟩

abbrev nBuf : Space → Nat
  | .hbm => 67
  | .vmem => 16
  | .smem => 0
  | _ => 0

abbrev bufTy : (tb : Table) → Fin (tcTables nBuf tb) → BufTy
  | .hbm, ⟨0, _⟩ => ⟨S16x2048x128, .f32⟩
  | .hbm, ⟨1, _⟩ => ⟨S16x256, .i32⟩
  | .hbm, ⟨2, _⟩ => ⟨S16, .i32⟩
  | .hbm, ⟨3, _⟩ => ⟨S16, .i32⟩
  | .hbm, ⟨4, _⟩ => ⟨S128x128, .f32⟩
  | .hbm, ⟨5, _⟩ => ⟨S_, .i32⟩
  | .hbm, ⟨6, _⟩ => ⟨S16x384, .i32⟩
  | .hbm, ⟨7, _⟩ => ⟨S_, .i32⟩
  | .hbm, ⟨8, _⟩ => ⟨S1, .i32⟩
  | .hbm, ⟨9, _⟩ => ⟨S16x384, .i32⟩
  | .hbm, ⟨10, _⟩ => ⟨S384, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S384, .i32⟩
  | .hbm, ⟨18, _⟩ => ⟨S384, .i32⟩
  | .hbm, ⟨19, _⟩ => ⟨S_, .i32⟩
  | .hbm, ⟨20, _⟩ => ⟨S384, .i32⟩
  | .hbm, ⟨21, _⟩ => ⟨S384, .i1⟩
  | .hbm, ⟨22, _⟩ => ⟨S_, .i32⟩
  | .hbm, ⟨23, _⟩ => ⟨S384, .i32⟩
  | .hbm, ⟨24, _⟩ => ⟨S384, .i1⟩
  | .hbm, ⟨25, _⟩ => ⟨S_, .i32⟩
  | .hbm, ⟨26, _⟩ => ⟨S_, .i1⟩
  | .hbm, ⟨27, _⟩ => ⟨S384, .i1⟩
  | .hbm, ⟨28, _⟩ => ⟨S384, .i1⟩
  | .hbm, ⟨29, _⟩ => ⟨S384, .i1⟩
  | .hbm, ⟨30, _⟩ => ⟨S384, .i32⟩
  | .hbm, ⟨31, _⟩ => ⟨S384, .i32⟩
  | .hbm, ⟨32, _⟩ => ⟨S384, .i32⟩
  | .hbm, ⟨33, _⟩ => ⟨S_, .i32⟩
  | .hbm, ⟨34, _⟩ => ⟨S384, .i32⟩
  | .hbm, ⟨35, _⟩ => ⟨S384, .i32⟩
  | .hbm, ⟨36, _⟩ => ⟨S_, .i32⟩
  | .hbm, ⟨37, _⟩ => ⟨S_, .i32⟩
  | .hbm, ⟨38, _⟩ => ⟨S384, .i32⟩
  | .hbm, ⟨39, _⟩ => ⟨S384, .i32⟩
  | .hbm, ⟨40, _⟩ => ⟨S384, .i32⟩
  | .hbm, ⟨41, _⟩ => ⟨S_, .i32⟩
  | .hbm, ⟨42, _⟩ => ⟨S384, .i32⟩
  | .hbm, ⟨43, _⟩ => ⟨S384, .i1⟩
  | .hbm, ⟨44, _⟩ => ⟨S384, .i32⟩
  | .hbm, ⟨45, _⟩ => ⟨S384, .i32⟩
  | .hbm, ⟨46, _⟩ => ⟨S_, .i32⟩
  | .hbm, ⟨47, _⟩ => ⟨S384, .i32⟩
  | .hbm, ⟨48, _⟩ => ⟨S384, .i1⟩
  | .hbm, ⟨49, _⟩ => ⟨S384, .i1⟩
  | .hbm, ⟨50, _⟩ => ⟨S_, .i32⟩
  | .hbm, ⟨51, _⟩ => ⟨S384, .i32⟩
  | .hbm, ⟨52, _⟩ => ⟨S384, .i32⟩
  | .hbm, ⟨53, _⟩ => ⟨S384, .i32⟩
  | .hbm, ⟨54, _⟩ => ⟨S384, .i32⟩
  | .hbm, ⟨55, _⟩ => ⟨S_, .i32⟩
  | .hbm, ⟨56, _⟩ => ⟨S384, .i32⟩
  | .hbm, ⟨57, _⟩ => ⟨S384, .i1⟩
  | .hbm, ⟨58, _⟩ => ⟨S_, .i32⟩
  | .hbm, ⟨59, _⟩ => ⟨S384, .i32⟩
  | .hbm, ⟨60, _⟩ => ⟨S384, .i32⟩
  | .hbm, ⟨61, _⟩ => ⟨S384, .i32⟩
  | .hbm, ⟨62, _⟩ => ⟨S384x1, .i32⟩
  | .hbm, ⟨63, _⟩ => ⟨S16x384, .i32⟩
  | .hbm, ⟨64, _⟩ => ⟨S16x1, .i32⟩
  | .hbm, ⟨65, _⟩ => ⟨S16x1, .i32⟩
  | .hbm, ⟨66, _⟩ => ⟨S1x1, .f32⟩
  | .local _ .vmem, ⟨0, _⟩ => ⟨S16x256x128, .f32⟩
  | .local _ .vmem, ⟨1, _⟩ => ⟨S16x256x128, .f32⟩
  | .local _ .vmem, ⟨2, _⟩ => ⟨S16x384, .i32⟩
  | .local _ .vmem, ⟨3, _⟩ => ⟨S16x1, .i32⟩
  | .local _ .vmem, ⟨4, _⟩ => ⟨S16x1, .i32⟩
  | .local _ .vmem, ⟨5, _⟩ => ⟨S128x128, .f32⟩
  | .local _ .vmem, ⟨6, _⟩ => ⟨S1x1, .f32⟩
  | .local _ .vmem, ⟨7, _⟩ => ⟨S128x128, .f32⟩
  | .local _ .vmem, ⟨8, _⟩ => ⟨S16x128x384, .f32⟩
  | .local _ .vmem, ⟨9, _⟩ => ⟨S16x384, .f32⟩
  | .local _ .vmem, ⟨10, _⟩ => ⟨S16x256x128, .f32⟩
  | .local _ .vmem, ⟨11, _⟩ => ⟨S16x256x384, .f32⟩
  | .local _ .vmem, ⟨12, _⟩ => ⟨S16x128, .f32⟩
  | .local _ .vmem, ⟨13, _⟩ => ⟨S16x384, .f32⟩
  | .local _ .vmem, ⟨14, _⟩ => ⟨S16x384, .f32⟩
  | .local _ .vmem, ⟨15, _⟩ => ⟨S16x1, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v4 : Ref sig .tc := ⟨.hbm, 32, rfl⟩
abbrev main_c_2 : Ref sig .tc := ⟨.hbm, 33, rfl⟩
abbrev main_v5 : Ref sig .tc := ⟨.hbm, 34, rfl⟩
abbrev main_v6 : Ref sig .tc := ⟨.hbm, 35, rfl⟩
abbrev main_c_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v7 : Ref sig .tc := ⟨.hbm, 53, rfl⟩
abbrev main_v8 : Ref sig .tc := ⟨.hbm, 54, rfl⟩
abbrev main_c_4 : Ref sig .tc := ⟨.hbm, 55, rfl⟩
abbrev main_v9 : Ref sig .tc := ⟨.hbm, 56, rfl⟩
abbrev main_v10 : Ref sig .tc := ⟨.hbm, 57, rfl⟩
abbrev main_c_5 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_120 : BitVec 32 := 0#32
  let v220 : BitVec 1 := Scalar.cmpi .eq arg0 c0_i32_120
  let v221 : BitVec 32 := Scalar.extui v220
  let c0_i32_121 : BitVec 32 := 0#32
  let v222 : BitVec 1 := Scalar.cmpi .ne v221 c0_i32_121
  v222

@[reducible] def k0_t1_loop : Scf.Loop 32 :=
  let c0_i32_135 : BitVec 32 := 0#32
  let c16_i32 : BitVec 32 := 16#32
  let v238 : BitVec 32 := Scalar.addi c0_i32_135 c16_i32
  let c1_i32_136 : BitVec 32 := 1#32
  ⟨c0_i32_135, v238, c1_i32_136⟩
def k0_off1 (k0_t1 : Fin k0_t1_loop.trips) (c0_i32_151 : BitVec 32) : Fin 3 → Nat :=
  let c0_152 : Index := 0#32
  let c0_i32_135 : BitVec 32 := 0#32
  let c1_i32_136 : BitVec 32 := 1#32
  let arg16 : BitVec 32 := Scf.iv c0_i32_135 c1_i32_136 k0_t1
  let c16_i32_150 : BitVec 32 := 16#32
  let v254 : BitVec 32 := Scalar.muli arg16 c16_i32_150
  let v255 : BitVec 32 := Scalar.addi v254 c0_i32_151
  let v256 : Index := Scalar.indexCast v255
  let c0_153 : Index := 0#32
  ![0, v256.toNat, 0]
def k0_off2 (k0_t1 : Fin k0_t1_loop.trips) (c0_i32_151 : BitVec 32) : Fin 3 → Nat :=
  let c0_154 : Index := 0#32
  let c0_i32_135 : BitVec 32 := 0#32
  let c1_i32_136 : BitVec 32 := 1#32
  let arg16 : BitVec 32 := Scf.iv c0_i32_135 c1_i32_136 k0_t1
  let c16_i32_150 : BitVec 32 := 16#32
  let v254 : BitVec 32 := Scalar.muli arg16 c16_i32_150
  let v255 : BitVec 32 := Scalar.addi v254 c0_i32_151
  let v259 : Index := Scalar.indexCast v255
  let c0_155 : Index := 0#32
  ![0, v259.toNat, 0]
def k0_cond3 (i : grid0.Coords) : BitVec 1 :=
  let arg0 : BitVec 32 := BitVec.ofNat 32 (i 0).val
  let c0_i32_122 : BitVec 32 := 0#32
  let v223 : BitVec 1 := Scalar.cmpi .sgt arg0 c0_i32_122
  let c4_i32 : BitVec 32 := 4#32
  let v224 : BitVec 1 := Scalar.cmpi .slt arg0 c4_i32
  let v225 : BitVec 1 := Scalar.andi v223 v224
  let v226 : BitVec 32 := Scalar.extui v225
  let c0_i32_123 : BitVec 32 := 0#32
  let v227 : BitVec 1 := Scalar.cmpi .ne v226 c0_i32_123
  v227

@[reducible] def k0_t2_loop : Scf.Loop 32 :=
  let c0_i32_135 : BitVec 32 := 0#32
  let c16_i32 : BitVec 32 := 16#32
  let v238 : BitVec 32 := Scalar.addi c0_i32_135 c16_i32
  let c1_i32_136 : BitVec 32 := 1#32
  ⟨c0_i32_135, v238, c1_i32_136⟩
def k0_off3 (k0_t2 : Fin k0_t2_loop.trips) (c0_i32_151 : BitVec 32) : Fin 3 → Nat :=
  let c0_152 : Index := 0#32
  let c0_i32_135 : BitVec 32 := 0#32
  let c1_i32_136 : BitVec 32 := 1#32
  let arg16 : BitVec 32 := Scf.iv c0_i32_135 c1_i32_136 k0_t2
  let c16_i32_150 : BitVec 32 := 16#32
  let v254 : BitVec 32 := Scalar.muli arg16 c16_i32_150
  let v255 : BitVec 32 := Scalar.addi v254 c0_i32_151
  let v256 : Index := Scalar.indexCast v255
  let c0_153 : Index := 0#32
  ![0, v256.toNat, 0]
def k0_off4 (k0_t2 : Fin k0_t2_loop.trips) (c0_i32_151 : BitVec 32) : Fin 3 → Nat :=
  let c0_154 : Index := 0#32
  let c0_i32_135 : BitVec 32 := 0#32
  let c1_i32_136 : BitVec 32 := 1#32
  let arg16 : BitVec 32 := Scf.iv c0_i32_135 c1_i32_136 k0_t2
  let c16_i32_150 : BitVec 32 := 16#32
  let v254 : BitVec 32 := Scalar.muli arg16 c16_i32_150
  let v255 : BitVec 32 := Scalar.addi v254 c0_i32_151
  let v259 : Index := Scalar.indexCast v255
  let c0_155 : Index := 0#32
  ![0, v259.toNat, 0]
def k0_cond4 (i : grid0.Coords) : BitVec 1 :=
  let arg0 : BitVec 32 := BitVec.ofNat 32 (i 0).val
  let c4_i32_124 : BitVec 32 := 4#32
  let v228 : BitVec 1 := Scalar.cmpi .sge arg0 c4_i32_124
  let v229 : BitVec 32 := Scalar.extui v228
  let c0_i32_125 : BitVec 32 := 0#32
  let v230 : BitVec 1 := Scalar.cmpi .ne v229 c0_i32_125
  v230

@[reducible] def k0_t3_loop : Scf.Loop 32 :=
  let c0_i32_135 : BitVec 32 := 0#32
  let c16_i32 : BitVec 32 := 16#32
  let v238 : BitVec 32 := Scalar.addi c0_i32_135 c16_i32
  let c1_i32_136 : BitVec 32 := 1#32
  ⟨c0_i32_135, v238, c1_i32_136⟩
def k0_off5 (k0_t3 : Fin k0_t3_loop.trips) (c0_i32_151 : BitVec 32) : Fin 3 → Nat :=
  let c0_152 : Index := 0#32
  let c0_i32_135 : BitVec 32 := 0#32
  let c1_i32_136 : BitVec 32 := 1#32
  let arg16 : BitVec 32 := Scf.iv c0_i32_135 c1_i32_136 k0_t3
  let c16_i32_150 : BitVec 32 := 16#32
  let v254 : BitVec 32 := Scalar.muli arg16 c16_i32_150
  let v255 : BitVec 32 := Scalar.addi v254 c0_i32_151
  let v256 : Index := Scalar.indexCast v255
  let c0_153 : Index := 0#32
  ![0, v256.toNat, 0]
def k0_off6 (k0_t3 : Fin k0_t3_loop.trips) (c0_i32_151 : BitVec 32) : Fin 3 → Nat :=
  let c0_154 : Index := 0#32
  let c0_i32_135 : BitVec 32 := 0#32
  let c1_i32_136 : BitVec 32 := 1#32
  let arg16 : BitVec 32 := Scf.iv c0_i32_135 c1_i32_136 k0_t3
  let c16_i32_150 : BitVec 32 := 16#32
  let v254 : BitVec 32 := Scalar.muli arg16 c16_i32_150
  let v255 : BitVec 32 := Scalar.addi v254 c0_i32_151
  let v259 : Index := Scalar.indexCast v255
  let c0_155 : Index := 0#32
  ![0, v259.toNat, 0]
def k0_cond5 (i : grid0.Coords) : BitVec 1 :=
  let arg0 : BitVec 32 := BitVec.ofNat 32 (i 0).val
  let c7_i32 : BitVec 32 := 7#32
  let v231 : BitVec 1 := Scalar.cmpi .eq arg0 c7_i32
  let v232 : BitVec 32 := Scalar.extui v231
  let c0_i32_126 : BitVec 32 := 0#32
  let v233 : BitVec 1 := Scalar.cmpi .ne v232 c0_i32_126
  v233

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "neg_inf" => some ⊥
  | _ => none
-- ==== ReferenceIdeal.lean ====
abbrev S16x2048x128 : Shape := ⟨3, ![16, 2048, 128]⟩
abbrev S16x256 : Shape := ⟨2, ![16, 256]⟩
abbrev S16 : Shape := ⟨1, ![16]⟩
abbrev S128x128 : Shape := ⟨2, ![128, 128]⟩
abbrev S_ : Shape := ⟨0, ![]⟩
abbrev S16x513 : Shape := ⟨2, ![16, 513]⟩
abbrev S16x2 : Shape := ⟨2, ![16, 2]⟩
abbrev S16x511 : Shape := ⟨2, ![16, 511]⟩
abbrev S16x1 : Shape := ⟨2, ![16, 1]⟩
abbrev S16x1x128 : Shape := ⟨3, ![16, 1, 128]⟩
abbrev S16x128 : Shape := ⟨2, ![16, 128]⟩
abbrev S16x513x1 : Shape := ⟨3, ![16, 513, 1]⟩
abbrev S16x512 : Shape := ⟨2, ![16, 512]⟩
abbrev S16x128x1 : Shape := ⟨3, ![16, 128, 1]⟩
abbrev S1x128x128 : Shape := ⟨3, ![1, 128, 128]⟩
abbrev S16x128x128 : Shape := ⟨3, ![16, 128, 128]⟩
abbrev S16x1x1 : Shape := ⟨3, ![16, 1, 1]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S16x2048x128, .f32⟩
  | 1 => ⟨S16x256, .i32⟩
  | 2 => ⟨S16, .i32⟩
  | 3 => ⟨S16, .i32⟩
  | 4 => ⟨S128x128, .f32⟩
  | 5 => ⟨S_, .i32⟩
  | 6 => ⟨S16x513, .i32⟩
  | 7 => ⟨S_, .i32⟩
  | 8 => ⟨S16x2, .i32⟩
  | 9 => ⟨S16x511, .i32⟩
  | 10 => ⟨S16x513, .i32⟩
  | 11 => ⟨S_, .i32⟩
  | 12 => ⟨S16x513, .i32⟩
  | 13 => ⟨S16x513, .i1⟩
  | 14 => ⟨S16x513, .i1⟩
  | 15 => ⟨S16x513, .i1⟩
  | 16 => ⟨S_, .f32⟩
  | 17 => ⟨S16x1, .f32⟩
  | 18 => ⟨S_, .f32⟩
  | 19 => ⟨S16x2, .f32⟩
  | 20 => ⟨S16x1x128, .f32⟩
  | 21 => ⟨S16x128, .f32⟩
  | 22 => ⟨S16x513, .i32⟩
  | 23 => ⟨S_, .i32⟩
  | 24 => ⟨S16x513, .i32⟩
  | 25 => ⟨S16x513, .i1⟩
  | 26 => ⟨S_, .i32⟩
  | 27 => ⟨S16x513, .i32⟩
  | 28 => ⟨S16x513, .i1⟩
  | 29 => ⟨S_, .i32⟩
  | 30 => ⟨S16x513, .i32⟩
  | 31 => ⟨S16x513, .i32⟩
  | 32 => ⟨S16x513, .i32⟩
  | 33 => ⟨S16x513x1, .i32⟩
  | 34 => ⟨S16x513, .f32⟩
  | 35 => ⟨S_, .f32⟩
  | 36 => ⟨S_, .f32⟩
  | 37 => ⟨S16x513, .f32⟩
  | 38 => ⟨S16x513, .f32⟩
  | 39 => ⟨S_, .i32⟩
  | 40 => ⟨S_, .i32⟩
  | 41 => ⟨S16x2048x128, .f32⟩
  | 42 => ⟨S16, .i32⟩
  | 43 => ⟨S16x1, .f32⟩
  | 44 => ⟨S16x2, .f32⟩
  | 45 => ⟨S16x513, .i1⟩
  | 46 => ⟨S16x513, .i32⟩
  | 47 => ⟨S128x128, .f32⟩
  | 48 => ⟨S_, .i32⟩
  | 49 => ⟨S_, .i32⟩
  | 50 => ⟨S16x513, .f32⟩
  | 51 => ⟨S16x128, .f32⟩
  | 52 => ⟨S_, .i32⟩
  | 53 => ⟨S_, .i1⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S16x1x128, .f32⟩
  | 65 => ⟨S16x128, .f32⟩
  | 66 => ⟨S_, .i32⟩
  | 67 => ⟨S16, .i32⟩
  | 68 => ⟨S16, .i1⟩
  | 69 => ⟨S16x1, .i1⟩
  | 70 => ⟨S16x512, .f32⟩
  | 71 => ⟨S16x513, .f32⟩
  | 72 => ⟨S16x511, .f32⟩
  | 73 => ⟨S16x513, .f32⟩
  | 74 => ⟨S_, .f32⟩
  | 75 => ⟨S_, .f32⟩
  | 76 => ⟨S16x513, .f32⟩
  | 77 => ⟨S16x513, .f32⟩
  | 78 => ⟨S16x513, .f32⟩
  | 79 => ⟨S16x513, .f32⟩
  | 80 => ⟨S16x513, .i1⟩
  | 81 => ⟨S16x513, .f32⟩
  | 82 => ⟨S16x513, .f32⟩
  | 83 => ⟨S16x513, .f32⟩
  | 84 => ⟨S16x513, .f32⟩
  | 85 => ⟨S16x513, .f32⟩
  | 86 => ⟨S16x513, .f32⟩
  | 87 => ⟨S16x513, .f32⟩
  | 88 => ⟨S16x513, .f32⟩
  | 89 => ⟨S16x513, .f32⟩
  | 90 => ⟨S16x513, .i1⟩
  | 91 => ⟨S16x513, .f32⟩
  | 92 => ⟨S16x513, .f32⟩
  | 93 => ⟨S16x513, .f32⟩
  | 94 => ⟨S16x513, .f32⟩
  | 95 => ⟨S16x513, .f32⟩
  | 96 => ⟨S16x513, .f32⟩
  | 97 => ⟨S16x513, .f32⟩
  | 98 => ⟨S_, .i32⟩
  | 99 => ⟨S16x513, .i32⟩
  | 100 => ⟨S16x513, .i1⟩
  | 101 => ⟨S_, .i32⟩
  | 102 => ⟨S16x513, .i32⟩
  | 103 => ⟨S16x513, .i32⟩
  | 104 => ⟨S16x513, .i32⟩
  | 105 => ⟨S16x513x1, .i32⟩
  | 106 => ⟨S16x513, .f32⟩
  | 107 => ⟨S16x513, .f32⟩
  | 108 => ⟨S16x128x1, .f32⟩
  | 109 => ⟨S1x128x128, .f32⟩
  | 110 => ⟨S16x128x128, .f32⟩
  | 111 => ⟨S16x128x128, .f32⟩
  | 112 => ⟨S16x128x128, .f32⟩
  | 113 => ⟨S_, .f32⟩
  | 114 => ⟨S16x128, .f32⟩
  | 115 => ⟨S16x1x128, .f32⟩
  | 116 => ⟨S16x128x128, .f32⟩
  | 117 => ⟨S16x128x128, .f32⟩
  | 118 => ⟨S16x128x128, .f32⟩
  | 119 => ⟨S_, .f32⟩
  | 120 => ⟨S16x128, .f32⟩
  | 121 => ⟨S16x1x128, .f32⟩
  | 122 => ⟨S16x1x128, .f32⟩
  | 123 => ⟨S16x1x128, .f32⟩
  | 124 => ⟨S16x128, .f32⟩
  | 125 => ⟨S16x513, .i1⟩
  | 126 => ⟨S16x513, .f32⟩
  | 127 => ⟨S16x128, .f32⟩
  | _ => ⟨S16x2048x128, .f32⟩

abbrev hbmTy0_1 (i : Nat) : BufTy := match i % 128 with
  | 0 => ⟨S16x128, .i1⟩
  | 1 => ⟨S16x128, .f32⟩
  | 2 => ⟨S_, .i32⟩
  | 3 => ⟨S_, .i32⟩
  | 4 => ⟨S16x1, .i32⟩
  | 5 => ⟨S_, .i32⟩
  | 6 => ⟨S16x1, .i32⟩
  | 7 => ⟨S16x1, .i32⟩
  | 8 => ⟨S_, .i32⟩
  | 9 => ⟨S16x1, .i32⟩
  | 10 => ⟨S16x1, .i1⟩
  | 11 => ⟨S_, .i32⟩
  | 12 => ⟨S16x1, .i32⟩
  | 13 => ⟨S16x1, .i32⟩
  | 14 => ⟨S16x1, .i32⟩
  | 15 => ⟨S16x1x1, .i32⟩
  | 16 => ⟨S16x1, .f32⟩
  | 17 => ⟨S_, .i32⟩
  | 18 => ⟨S16x1, .i32⟩
  | 19 => ⟨S16x1, .i32⟩
  | 20 => ⟨S_, .i32⟩
  | 21 => ⟨S16x1, .i32⟩
  | 22 => ⟨S16x1, .i1⟩
  | 23 => ⟨S_, .i32⟩
  | 24 => ⟨S16x1, .i32⟩
  | 25 => ⟨S16x1, .i32⟩
  | 26 => ⟨S16x1, .i32⟩
  | 27 => ⟨S16x1x1, .i32⟩
  | 28 => ⟨S16x1, .f32⟩
  | 29 => ⟨S16x1, .f32⟩
  | 30 => ⟨S16x1, .f32⟩
  | 31 => ⟨S16x1, .i1⟩
  | 32 => ⟨S16x1, .f32⟩
  | 33 => ⟨S16x1, .f32⟩
  | 34 => ⟨S16x1, .f32⟩
  | 35 => ⟨S16x1, .f32⟩
  | 36 => ⟨S16x1, .f32⟩
  | 37 => ⟨S16x1, .f32⟩
  | 38 => ⟨S16x1, .f32⟩
  | 39 => ⟨S16, .f32⟩
  | 40 => ⟨S_, .f32⟩
  | 41 => ⟨S16, .f32⟩
  | 42 => ⟨S16x1, .f32⟩
  | 43 => ⟨S16x128, .f32⟩
  | 44 => ⟨S16x128, .f32⟩
  | 45 => ⟨S16x128, .f32⟩
  | 46 => ⟨S_, .f32⟩
  | 47 => ⟨S16, .f32⟩
  | 48 => ⟨S16x1, .f32⟩
  | 49 => ⟨S16x1, .f32⟩
  | 50 => ⟨S16x1, .f32⟩
  | 51 => ⟨S16, .f32⟩
  | 52 => ⟨S_, .f32⟩
  | 53 => ⟨S16, .f32⟩
  | 54 => ⟨S16, .f32⟩
  | 55 => ⟨S16, .f32⟩
  | 56 => ⟨S_, .i32⟩
  | 57 => ⟨S_, .i32⟩
  | 58 => ⟨S_, .f32⟩
  | 59 => ⟨S_, .f32⟩
  | 60 => ⟨S_, .f32⟩
  | 61 => ⟨S_, .f32⟩
  | 62 => ⟨S_, .f32⟩
  | 63 => ⟨S1x1, .f32⟩
  | _ => ⟨S16x2048x128, .f32⟩

abbrev hbmTy (i : Nat) : BufTy := match i / 128 with
  | 0 => hbmTy0_0 i
  | 1 => hbmTy0_1 i
  | _ => ⟨S16x2048x128, .f32⟩

abbrev bufTy : (tb : Table) → Fin (tcTables nBuf tb) → BufTy
  | .hbm, ⟨i, _⟩ => hbmTy i
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_c_5 : Ref sig .tc := ⟨.hbm, 39, rfl⟩
abbrev main_c_6 : Ref sig .tc := ⟨.hbm, 40, rfl⟩
abbrev main_v17_0 : Ref sig .tc := ⟨.hbm, 41, rfl⟩
abbrev main_v17_1 : Ref sig .tc := ⟨.hbm, 42, rfl⟩
abbrev main_v17_2 : Ref sig .tc := ⟨.hbm, 43, rfl⟩
abbrev main_v17_3 : Ref sig .tc := ⟨.hbm, 44, rfl⟩
abbrev main_v17_4 : Ref sig .tc := ⟨.hbm, 45, rfl⟩
abbrev main_v17_5 : Ref sig .tc := ⟨.hbm, 46, rfl⟩
abbrev main_v17_6 : Ref sig .tc := ⟨.hbm, 47, rfl⟩
abbrev main_v17_7 : Ref sig .tc := ⟨.hbm, 48, rfl⟩
abbrev main_v17_8 : Ref sig .tc := ⟨.hbm, 49, rfl⟩
abbrev main_v17_9 : Ref sig .tc := ⟨.hbm, 50, rfl⟩
abbrev main_v17_10 : Ref sig .tc := ⟨.hbm, 51, rfl⟩
abbrev main_while0c_c_24 : Ref sig .tc := ⟨.hbm, 52, rfl⟩
abbrev main_while0c_v55 : Ref sig .tc := ⟨.hbm, 53, rfl⟩
abbrev main_while0b_c_24 : Ref sig .tc := ⟨.hbm, 54, rfl⟩
abbrev main_while0b_v55 : Ref sig .tc := ⟨.hbm, 55, rfl⟩
abbrev main_while0b_c_25 : Ref sig .tc := ⟨.hbm, 56, rfl⟩
abbrev main_while0b_v56 : Ref sig .tc := ⟨.hbm, 57, rfl⟩
abbrev main_while0b_v57 : Ref sig .tc := ⟨.hbm, 58, rfl⟩
abbrev main_while0b_c_26 : Ref sig .tc := ⟨.hbm, 59, rfl⟩
abbrev main_while0b_v58 : Ref sig .tc := ⟨.hbm, 60, rfl⟩
abbrev main_while0b_v59 : Ref sig .tc := ⟨.hbm, 61, rfl⟩
abbrev main_while0b_c_27 : Ref sig .tc := ⟨.hbm, 62, rfl⟩
abbrev main_while0b_c_28 : Ref sig .tc := ⟨.hbm, 63, rfl⟩
abbrev main_while0b_v60 : Ref sig .tc := ⟨.hbm, 64, rfl⟩
abbrev main_while0b_v61 : Ref sig .tc := ⟨.hbm, 65, rfl⟩
abbrev main_while0b_v62 : Ref sig .tc := ⟨.hbm, 66, rfl⟩
abbrev main_while0b_v63 : Ref sig .tc := ⟨.hbm, 67, rfl⟩
abbrev main_while0b_v64 : Ref sig .tc := ⟨.hbm, 68, rfl⟩
abbrev main_while0b_v65 : Ref sig .tc := ⟨.hbm, 69, rfl⟩
abbrev main_while0b_v66 : Ref sig .tc := ⟨.hbm, 70, rfl⟩
abbrev main_while0b_v67 : Ref sig .tc := ⟨.hbm, 71, rfl⟩
abbrev main_while0b_v68 : Ref sig .tc := ⟨.hbm, 72, rfl⟩
abbrev main_while0b_v69 : Ref sig .tc := ⟨.hbm, 73, rfl⟩
abbrev main_while0b_cst_29 : Ref sig .tc := ⟨.hbm, 74, rfl⟩
abbrev main_while0b_call2_v0 : Ref sig .tc := ⟨.hbm, 75, rfl⟩
abbrev main_while0b_call2_v1 : Ref sig .tc := ⟨.hbm, 76, rfl⟩
abbrev main_while0b_v70 : Ref sig .tc := ⟨.hbm, 77, rfl⟩
abbrev main_while0b_v71 : Ref sig .tc := ⟨.hbm, 78, rfl⟩
abbrev main_while0b_v72 : Ref sig .tc := ⟨.hbm, 79, rfl⟩
abbrev main_while0b_v73 : Ref sig .tc := ⟨.hbm, 80, rfl⟩
abbrev main_while0b_v74 : Ref sig .tc := ⟨.hbm, 81, rfl⟩
abbrev main_while0b_v75 : Ref sig .tc := ⟨.hbm, 82, rfl⟩
abbrev main_while0b_v76 : Ref sig .tc := ⟨.hbm, 83, rfl⟩
abbrev main_while0b_v77 : Ref sig .tc := ⟨.hbm, 84, rfl⟩
abbrev main_while0b_v78 : Ref sig .tc := ⟨.hbm, 85, rfl⟩
abbrev main_while0b_v79 : Ref sig .tc := ⟨.hbm, 86, rfl⟩
abbrev main_while0b_v80 : Ref sig .tc := ⟨.hbm, 87, rfl⟩
abbrev main_while0b_v81 : Ref sig .tc := ⟨.hbm, 88, rfl⟩
abbrev main_while0b_v82 : Ref sig .tc := ⟨.hbm, 89, rfl⟩
abbrev main_while0b_v83 : Ref sig .tc := ⟨.hbm, 90, rfl⟩
abbrev main_while0b_v84 : Ref sig .tc := ⟨.hbm, 91, rfl⟩
abbrev main_while0b_v85 : Ref sig .tc := ⟨.hbm, 92, rfl⟩
abbrev main_while0b_v86 : Ref sig .tc := ⟨.hbm, 93, rfl⟩
abbrev main_while0b_v87 : Ref sig .tc := ⟨.hbm, 94, rfl⟩
abbrev main_while0b_v88 : Ref sig .tc := ⟨.hbm, 95, rfl⟩
abbrev main_while0b_v89 : Ref sig .tc := ⟨.hbm, 96, rfl⟩
abbrev main_while0b_v90 : Ref sig .tc := ⟨.hbm, 97, rfl⟩
abbrev main_while0b_call3_c : Ref sig .tc := ⟨.hbm, 98, rfl⟩
abbrev main_while0b_call3_v0 : Ref sig .tc := ⟨.hbm, 99, rfl⟩
abbrev main_while0b_call3_v1 : Ref sig .tc := ⟨.hbm, 100, rfl⟩
abbrev main_while0b_call3_c_0 : Ref sig .tc := ⟨.hbm, 101, rfl⟩
abbrev main_while0b_call3_v2 : Ref sig .tc := ⟨.hbm, 102, rfl⟩
abbrev main_while0b_call3_v3 : Ref sig .tc := ⟨.hbm, 103, rfl⟩
abbrev main_while0b_call3_v4 : Ref sig .tc := ⟨.hbm, 104, rfl⟩
abbrev main_while0b_call3_v5 : Ref sig .tc := ⟨.hbm, 105, rfl⟩
abbrev main_while0b_v91 : Ref sig .tc := ⟨.hbm, 106, rfl⟩
abbrev main_while0b_v92 : Ref sig .tc := ⟨.hbm, 107, rfl⟩
abbrev main_while0b_v93 : Ref sig .tc := ⟨.hbm, 108, rfl⟩
abbrev main_while0b_v94 : Ref sig .tc := ⟨.hbm, 109, rfl⟩
abbrev main_while0b_v95 : Ref sig .tc := ⟨.hbm, 110, rfl⟩
abbrev main_while0b_v96 : Ref sig .tc := ⟨.hbm, 111, rfl⟩
abbrev main_while0b_v97 : Ref sig .tc := ⟨.hbm, 112, rfl⟩
abbrev main_while0b_cst_30 : Ref sig .tc := ⟨.hbm, 113, rfl⟩
abbrev main_while0b_v98 : Ref sig .tc := ⟨.hbm, 114, rfl⟩
abbrev main_while0b_v99 : Ref sig .tc := ⟨.hbm, 115, rfl⟩
abbrev main_while0b_v100 : Ref sig .tc := ⟨.hbm, 116, rfl⟩
abbrev main_while0b_v101 : Ref sig .tc := ⟨.hbm, 117, rfl⟩
abbrev main_while0b_v102 : Ref sig .tc := ⟨.hbm, 118, rfl⟩
abbrev main_while0b_cst_31 : Ref sig .tc := ⟨.hbm, 119, rfl⟩
abbrev main_while0b_v103 : Ref sig .tc := ⟨.hbm, 120, rfl⟩
abbrev main_while0b_v104 : Ref sig .tc := ⟨.hbm, 121, rfl⟩
abbrev main_while0b_v105 : Ref sig .tc := ⟨.hbm, 122, rfl⟩
abbrev main_while0b_v106 : Ref sig .tc := ⟨.hbm, 123, rfl⟩
abbrev main_while0b_v107 : Ref sig .tc := ⟨.hbm, 124, rfl⟩
abbrev main_while0b_call4_v0 : Ref sig .tc := ⟨.hbm, 125, rfl⟩
abbrev main_while0b_v108 : Ref sig .tc := ⟨.hbm, 126, rfl⟩
abbrev main_while0b_v109 : Ref sig .tc := ⟨.hbm, 127, rfl⟩
abbrev main_while0b_call5_v0 : Ref sig .tc := ⟨.hbm, 128, rfl⟩
abbrev main_while0b_v110 : Ref sig .tc := ⟨.hbm, 129, rfl⟩
abbrev main_while0b_c_32 : Ref sig .tc := ⟨.hbm, 130, rfl⟩
abbrev main_while0b_v111 : Ref sig .tc := ⟨.hbm, 131, rfl⟩
abbrev main_v18 : Ref sig .tc := ⟨.hbm, 132, rfl⟩
abbrev main_c_7 : Ref sig .tc := ⟨.hbm, 133, rfl⟩
abbrev main_v19 : Ref sig .tc := ⟨.hbm, 134, rfl⟩
abbrev main_v20 : Ref sig .tc := ⟨.hbm, 135, rfl⟩
abbrev main_call6_c : Ref sig .tc := ⟨.hbm, 136, rfl⟩
abbrev main_call6_v0 : Ref sig .tc := ⟨.hbm, 137, rfl⟩
abbrev main_call6_v1 : Ref sig .tc := ⟨.hbm, 138, rfl⟩
abbrev main_call6_c_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_v21 : Ref sig .tc := ⟨.hbm, 144, rfl⟩
abbrev main_c_8 : Ref sig .tc := ⟨.hbm, 145, rfl⟩
abbrev main_v22 : Ref sig .tc := ⟨.hbm, 146, rfl⟩
abbrev main_v23 : Ref sig .tc := ⟨.hbm, 147, rfl⟩
abbrev main_call7_c : Ref sig .tc := ⟨.hbm, 148, rfl⟩
abbrev main_call7_v0 : Ref sig .tc := ⟨.hbm, 149, rfl⟩
abbrev main_call7_v1 : Ref sig .tc := ⟨.hbm, 150, rfl⟩
abbrev main_call7_c_0 : Ref sig .tc := ⟨.hbm, 151, rfl⟩
abbrev main_call7_v2 : Ref sig .tc := ⟨.hbm, 152, rfl⟩
abbrev main_call7_v3 : Ref sig .tc := ⟨.hbm, 153, rfl⟩
abbrev main_call7_v4 : Ref sig .tc := ⟨.hbm, 154, rfl⟩
abbrev main_call7_v5 : Ref sig .tc := ⟨.hbm, 155, rfl⟩
abbrev main_v24 : Ref sig .tc := ⟨.hbm, 156, rfl⟩
abbrev main_v25 : Ref sig .tc := ⟨.hbm, 157, rfl⟩
abbrev main_v26 : Ref sig .tc := ⟨.hbm, 158, rfl⟩
abbrev main_v27 : Ref sig .tc := ⟨.hbm, 159, rfl⟩
abbrev main_v28 : Ref sig .tc := ⟨.hbm, 160, rfl⟩
abbrev main_v29 : Ref sig .tc := ⟨.hbm, 161, rfl⟩
abbrev main_v30 : Ref sig .tc := ⟨.hbm, 162, rfl⟩
abbrev main_v31 : Ref sig .tc := ⟨.hbm, 163, rfl⟩
abbrev main_v32 : Ref sig .tc := ⟨.hbm, 164, rfl⟩
abbrev main_v33 : Ref sig .tc := ⟨.hbm, 165, rfl⟩
abbrev main_v34 : Ref sig .tc := ⟨.hbm, 166, rfl⟩
abbrev main_v35 : Ref sig .tc := ⟨.hbm, 167, rfl⟩
abbrev main_cst_9 : Ref sig .tc := ⟨.hbm, 168, rfl⟩
abbrev main_v36 : Ref sig .tc := ⟨.hbm, 169, rfl⟩
abbrev main_v37 : Ref sig .tc := ⟨.hbm, 170, rfl⟩
abbrev main_v38 : Ref sig .tc := ⟨.hbm, 171, rfl⟩
abbrev main_v39 : Ref sig .tc := ⟨.hbm, 172, rfl⟩
abbrev main_v40 : Ref sig .tc := ⟨.hbm, 173, rfl⟩
abbrev main_cst_10 : Ref sig .tc := ⟨.hbm, 174, rfl⟩
abbrev main_v41 : Ref sig .tc := ⟨.hbm, 175, rfl⟩
abbrev main_v42 : Ref sig .tc := ⟨.hbm, 176, rfl⟩
abbrev main_v43 : Ref sig .tc := ⟨.hbm, 177, rfl⟩
abbrev main_v44 : Ref sig .tc := ⟨.hbm, 178, rfl⟩
abbrev main_v45 : Ref sig .tc := ⟨.hbm, 179, rfl⟩
abbrev main_cst_11 : Ref sig .tc := ⟨.hbm, 180, rfl⟩
abbrev main_v46 : Ref sig .tc := ⟨.hbm, 181, rfl⟩
abbrev main_v47 : Ref sig .tc := ⟨.hbm, 182, rfl⟩
abbrev main_v48 : Ref sig .tc := ⟨.hbm, 183, rfl⟩
abbrev main_c_12 : Ref sig .tc := ⟨.hbm, 184, rfl⟩
abbrev main_v49 : Ref sig .tc := ⟨.hbm, 185, rfl⟩
abbrev main_v50 : Ref sig .tc := ⟨.hbm, 186, rfl⟩
abbrev main_cst_13 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩
abbrev main_v54 : Ref sig .tc := ⟨.hbm, 191, rfl⟩

abbrev nD : Nat := 1
abbrev τ : Topo := Topo.v7x

variable {F : FTy → Type} [FloatOps F]

def κ : String → Option EReal := fun
  | "neg_inf" => some ⊥
  | _ => none

abbrev main_while0_count : Scf.Loop 32 := ⟨0#32, 2047#32, 1#32⟩
-- ==== Proof.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

/-!
# The claims about one program

The three programs run and leave their arguments unchanged, and the idealized kernel is the kernel
with the constant -1e30 named minus infinity.
-/

@[expose] public section

noncomputable section

namespace Cert.Ctc

open Idealize.ShloMosaic Idealize.ShloMosaic.TcCoe Idealize.SL.Sem

/-- The kernel runs and leaves its arguments unchanged. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_pi_drawn [Cert.Pre_drawn.Facts] : Cert.quiescent_KernelIdeal_pre_drawn :=
  fun m ρ _ => frame_pi m ρ trivial

theorem frame_ri_drawn [Cert.Pre_drawn.Facts] : Cert.quiescent_ReferenceIdeal_pre_drawn :=
  fun m ρ _ => frame_ri m ρ trivial

/-- The idealized kernel is the kernel with one constant named. -/
theorem preserves : Cert.preserves_Kernel_KernelIdeal :=
  IdealRules.named_const.statement Cert.KernelIdeal.κ "neg_inf" .f32 0xF149F2CA#32 ⊥ rfl

end Cert.Ctc

end
-- ==== Proof.Picks.lean ====
/-
How the gathers and the scatter of the two programs read: each result element named by the element it takes.
-/
module
public import proofs.«01_k».proof.Proof.Gen.KernelIdeal.Value
public import proofs.«01_k».proof.Proof.Gen.ReferenceIdeal.StepRun
public import Idealize.ShloMosaic.Lib.Pointwise
public import Idealize.ShloMosaic.Lib.Routing.OpsSet

@[expose] public section

set_option maxRecDepth 65536

noncomputable section

namespace Cert.Ctc

open Idealize.ShloMosaic Idealize.ShloMosaic.TcCoe Idealize.ShloMosaic.Tactic

variable {α : Type}

/-- The two axes of an array of rank two. -/
theorem axis_cases (a : Fin 2) : a = 0 ∨ a = 1 := by omega

/-- The reference's pick of a frame's score at each state's label. -/
theorem pick_frame (x : Cert.ReferenceIdeal.S16x128.Idx → α) (idx : IVec Cert.ReferenceIdeal.S16x513x1 32)
    (b : Fin 16) (k : Fin 513) :
    Host.gather Cert.ReferenceIdeal.gather_S16x128_S16x513x1_S16x513_n_1_0_0_1_2_11 x idx (ix2 b k)
      = x (ix2 b ⟨min (idx (ix3 b k 0)).toInt.toNat 127, by omega⟩) := by
  have hsi : ∀ c, GatherDims.siIdx Cert.ReferenceIdeal.gather_S16x128_S16x513x1_S16x513_n_1_0_0_1_2_11
      (ix2 b k) c = ix3 b k 0 := by
    intro c
    funext a
    match c, a with
    | ⟨0, _⟩, ⟨0, _⟩ => rfl
    | ⟨0, _⟩, ⟨1, _⟩ => rfl
    | ⟨0, _⟩, ⟨2, _⟩ => rfl
  unfold Host.gather
  congr 1
  funext a
  apply Fin.ext
  rcases axis_cases a with rfl | rfl
  · change GatherDims.start _ _ _ _ + GatherDims.batchCoord _ _ _ + GatherDims.offCoord _ _ _ = b.val
    rw [GatherDims.start_batching _ _ _ _ (List.mem_singleton.mpr rfl),
      GatherDims.offCoord_eq_zero _ _ _ (by decide)]
    rw [Nat.zero_add, Nat.add_zero]
    rfl
  · change GatherDims.start _ _ _ _ + GatherDims.batchCoord _ _ _ + GatherDims.offCoord _ _ _ = _
    rw [GatherDims.batchCoord_eq_zero _ _ _ (by decide), GatherDims.offCoord_eq_zero _ _ _ (by decide)]
    unfold GatherDims.start
    rw [dif_pos (by decide), hsi]
    rfl

/-- The reference's pick of one state of a row. -/
theorem pick_state (x : Cert.ReferenceIdeal.S16x513.Idx → α) (idx : IVec Cert.ReferenceIdeal.S16x1x1 32)
    (b : Fin 16) :
    Host.gather Cert.ReferenceIdeal.gather_S16x513_S16x1x1_S16x1_n_1_0_0_1_2_11 x idx (ix2 b 0)
      = x (ix2 b ⟨min (idx (ix3 b 0 0)).toInt.toNat 512, by omega⟩) := by
  have hsi : ∀ c, GatherDims.siIdx Cert.ReferenceIdeal.gather_S16x513_S16x1x1_S16x1_n_1_0_0_1_2_11
      (ix2 b 0) c = ix3 b 0 0 := by
    intro c
    funext a
    match c, a with
    | ⟨0, _⟩, ⟨0, _⟩ => rfl
    | ⟨0, _⟩, ⟨1, _⟩ => rfl
    | ⟨0, _⟩, ⟨2, _⟩ => rfl
  unfold Host.gather
  congr 1
  funext a
  apply Fin.ext
  rcases axis_cases a with rfl | rfl
  · change GatherDims.start _ _ _ _ + GatherDims.batchCoord _ _ _ + GatherDims.offCoord _ _ _ = b.val
    rw [GatherDims.start_batching _ _ _ _ (List.mem_singleton.mpr rfl),
      GatherDims.offCoord_eq_zero _ _ _ (by decide)]
    rw [Nat.zero_add, Nat.add_zero]
    rfl
  · change GatherDims.start _ _ _ _ + GatherDims.batchCoord _ _ _ + GatherDims.offCoord _ _ _ = _
    rw [GatherDims.batchCoord_eq_zero _ _ _ (by decide), GatherDims.offCoord_eq_zero _ _ _ (by decide)]
    unfold GatherDims.start
    rw [dif_pos (by decide), hsi]
    rfl

/-- The kernel's reordering of the label lanes. -/
theorem pick_column (x : Cert.KernelIdeal.S16x384.Idx → α) (idx : IVec Cert.KernelIdeal.S384x1 32)
    (b : Fin 16) (k : Fin 384) :
    Host.gather Cert.KernelIdeal.gather_S16x384_S384x1_S16x384_0_1_n_n_1_1_161 x idx (ix2 b k)
      = x (ix2 b ⟨min (idx (ix2 k 0)).toInt.toNat 383, by omega⟩) := by
  have hsi : ∀ c, GatherDims.siIdx Cert.KernelIdeal.gather_S16x384_S384x1_S16x384_0_1_n_n_1_1_161
      (ix2 b k) c = ix2 k 0 := by
    intro c
    funext a
    match c, a with
    | ⟨0, _⟩, ⟨0, _⟩ => rfl
    | ⟨0, _⟩, ⟨1, _⟩ => rfl
  unfold Host.gather
  congr 1
  funext a
  apply Fin.ext
  rcases axis_cases a with rfl | rfl
  · change GatherDims.start _ _ _ _ + GatherDims.batchCoord _ _ _ + GatherDims.offCoord _ _ _ = b.val
    rw [GatherDims.batchCoord_eq_zero _ _ _ (by decide)]
    unfold GatherDims.start
    rw [dif_neg (by decide), Nat.zero_add]
    rfl
  · change GatherDims.start _ _ _ _ + GatherDims.batchCoord _ _ _ + GatherDims.offCoord _ _ _ = _
    rw [GatherDims.batchCoord_eq_zero _ _ _ (by decide), GatherDims.offCoord_eq_zero _ _ _ (by decide)]
    unfold GatherDims.start
    rw [dif_pos (by decide), hsi]
    rfl

/-- Where the kernel's write of the labels puts each of them: lane for lane. -/
theorem write_place (idx : IVec Cert.KernelIdeal.S1 32) (hi : idx (ix1 0) = 0#32) (b : Fin 16) (k : Fin 256) :
    ScatterDims.resultIdx? Cert.KernelIdeal.scatter_S16x384_S1_S16x256_01_n_1_0 (ix2 b k) idx
      = some (ix2 b ⟨k.val, by omega⟩) := by
  have h0 : ScatterDims.start Cert.KernelIdeal.scatter_S16x384_S1_S16x256_01_n_1_0 (ix2 b k) idx 0
      + ScatterDims.window Cert.KernelIdeal.scatter_S16x384_S1_S16x256_01_n_1_0 (ix2 b k) 0 = (b.val : ℤ) := by
    unfold ScatterDims.start
    rw [dif_neg (by decide), zero_add]
    rfl
  have h1 : ScatterDims.start Cert.KernelIdeal.scatter_S16x384_S1_S16x256_01_n_1_0 (ix2 b k) idx 1
      + ScatterDims.window Cert.KernelIdeal.scatter_S16x384_S1_S16x256_01_n_1_0 (ix2 b k) 1 = (k.val : ℤ) := by
    unfold ScatterDims.start
    rw [dif_pos (by decide)]
    have : ∀ c, ScatterDims.siIdx Cert.KernelIdeal.scatter_S16x384_S1_S16x256_01_n_1_0 (ix2 b k) c = ix1 0 := by
      intro c
      funext a
      match c, a with
      | ⟨0, _⟩, ⟨0, _⟩ => rfl
    rw [this, hi]
    change (0 : ℤ) + _ = _
    rw [zero_add]
    rfl
  have hb := b.isLt
  have hk := k.isLt
  unfold ScatterDims.resultIdx?
  rw [dif_pos]
  · congr 1
    funext a
    apply Fin.ext
    match a with
    | ⟨0, _⟩ => exact (congrArg Int.toNat h0).trans (Int.toNat_natCast _)
    | ⟨1, _⟩ => exact (congrArg Int.toNat h1).trans (Int.toNat_natCast _)
  · intro a
    match a with
    | ⟨0, _⟩ =>
      change 0 ≤ ScatterDims.start _ _ _ 0 + ↑(ScatterDims.window _ _ 0) ∧ ScatterDims.start _ _ _ 0 + ↑(ScatterDims.window _ _ 0) < ((16 : ℕ) : ℤ)
      rw [h0]; omega
    | ⟨1, _⟩ =>
      change 0 ≤ ScatterDims.start _ _ _ 1 + ↑(ScatterDims.window _ _ 1) ∧ ScatterDims.start _ _ _ 1 + ↑(ScatterDims.window _ _ 1) < ((384 : ℕ) : ℤ)
      rw [h1]; omega

/-- The kernel's write of the labels, read at a lane below 256. -/
theorem written (x : Cert.KernelIdeal.S16x384.Idx → α) (idx : IVec Cert.KernelIdeal.S1 32) (hi : idx (ix1 0) = 0#32)
    (u : Cert.KernelIdeal.S16x256.Idx → α) (b : Fin 16) (k : Fin 256) :
    Host.scatter Cert.KernelIdeal.scatter_S16x384_S1_S16x256_01_n_1_0 (fun _ y => y) x idx u
      (ix2 b ⟨k.val, by omega⟩) = u (ix2 b k) := by
  refine Routing.scatter_set_hit _ _ _ _ _ _ (fun i hk => ?_) (ix2 b k) (write_place idx hi b k)
  obtain ⟨p, q, rfl⟩ : ∃ (p : Fin 16) (q : Fin 256), i = ix2 p q := by
    refine ⟨i 0, i 1, funext fun a => ?_⟩
    rcases axis_cases a with rfl | rfl <;> rfl
  rw [write_place idx hi p q] at hk
  have he := Option.some.inj hk
  have e0 : p.val = b.val := congrArg (fun f : Cert.KernelIdeal.S16x384.Idx => (f 0).val) he
  have e1 : q.val = k.val := congrArg (fun f : Cert.KernelIdeal.S16x384.Idx => (f 1).val) he
  rw [show p = b from Fin.ext e0, show q = k from Fin.ext e1]

end Cert.Ctc

end
-- ==== Proof.StepOps.lean ====
module

public import proofs.«01_k».proof.Proof.Gen.KernelIdeal.Skeleton

/-!
# One frame of the kernel, as operations on its registers

The kernel's loop body repeats one computation per frame: from the carried registers — the bigram
model's sums `u`, the blanks' scores `e`, the labels' scores `o` — and the frame's rows `q`
(probabilities by class) and `l` (label scores by lane) it makes new ones. Here that computation is
named, with the three forms in which the kernel guards it, and the rescaling after sixteen frames.
-/

@[expose] public section

noncomputable section

namespace Cert.Ctc

open Cert.KernelIdeal Cert.KernelIdeal.Gen
open Idealize.ShloMosaic Idealize.ShloMosaic.TcCoe Idealize.ShloMosaic.Tactic

variable {F : FTy → Type} [FloatOps F] [Named F]

/-- The registers a frame changes: the bigram model's sums, the blanks' scores, the labels' scores. -/
abbrev Regs (F : FTy → Type) := FVec F S16x128 .f32 × FVec F S16x384 .f32 × FVec F S16x384 .f32

/-- The label scores moved on by one state, in the lane order (state `3 l + k` in lane `128 k + l`). -/
def shiftOp (o : FVec F S16x384 .f32) : FVec F S16x384 .f32 :=
  concatenate S16x384 1
    [⟨S16x128, concatenate S16x128 1
        [⟨S16x1, broadcast S16x1 (Named.named κ "neg_inf" 0xF149F2CA#32 : F .f32)⟩,
          ⟨S16x127, extractStridedSlice S16x127 ![0, 256] o slices_S16x384_o0_256_S16x127⟩]
        concatenates_S16x1_S16x127_S16x128_d1⟩,
      ⟨S16x128, extractStridedSlice S16x128 ![0, 0] o slices_S16x384_o0_0_S16x128⟩,
      ⟨S16x128, extractStridedSlice S16x128 ![0, 128] o slices_S16x384_o0_128_S16x128⟩]
    concatenates_S16x128_S16x128_S16x128_S16x384_d1

/-- The bigram model's sums after the frame. -/
def denOp (P : FVec F S128x128 .f32) (q : FVec F S16x128 .f32) (u : FVec F S16x128 .f32) : FVec F S16x128 .f32 :=
  mulf (matmul dot_S16x128_S128x128_S16x128_1_0_0_1_n_n none u P (constant S16x128 .f32 0x00000000#32)) q

/-- The blank's score at the frame, one per row. -/
def blankOp (q : FVec F S16x128 .f32) : FVec F S16x1 .f32 :=
  log (shapeCast S16x1 (shapeCast S16 (extractStridedSlice S16x1 ![0, 0] q slices_S16x128_o0_0_S16x1)
    shapeCasts_S16x1_S16) shapeCasts_S16_S16x1)

/-- The kernel's log-add-exp. -/
def laepOp {s : Shape} (a b : FVec F s .f32) : FVec F s .f32 :=
  addf (maximumf a b) (log1p (exp (subf (broadcast s (Scalar.ofBits .f32 0x00000000#32 : F .f32)) (absf (subf a b)))))

/-- The blanks' scores after the frame. -/
def evenOp (q : FVec F S16x128 .f32) (e o : FVec F S16x384 .f32) : FVec F S16x384 .f32 :=
  addf (laepOp e (shiftOp o)) (broadcastTo S16x384 (blankOp q) broadcasts_S16x1_S16x384)

/-- The largest of the three scores that reach a label. -/
def topOp (S : FVec F S16x384 .f32) (e o : FVec F S16x384 .f32) : FVec F S16x384 .f32 :=
  maximumf (maximumf o e) (addf (shiftOp o) S)

/-- The labels' scores after the frame. -/
def oddOp (S : FVec F S16x384 .f32) (l e o : FVec F S16x384 .f32) : FVec F S16x384 .f32 :=
  addf (addf (topOp S e o) (log (addf (addf (exp (subf o (topOp S e o))) (exp (subf e (topOp S e o))))
    (exp (subf (addf (shiftOp o) S) (topOp S e o)))))) l

/-- The registers after a frame. -/
def stepOp (P : FVec F S128x128 .f32) (S : FVec F S16x384 .f32) (q : FVec F S16x128 .f32) (l : FVec F S16x384 .f32)
    (s : Regs F) : Regs F :=
  (denOp P q s.1, evenOp q s.2.1 s.2.2, oddOp S l s.2.1 s.2.2)

/-- The registers after a frame that one word guards for all rows. -/
def stepAllOp (c : BitVec 1) (P : FVec F S128x128 .f32) (S : FVec F S16x384 .f32) (q : FVec F S16x128 .f32)
    (l : FVec F S16x384 .f32) (s : Regs F) : Regs F :=
  (Scalar.select c (denOp P q s.1) s.1, Scalar.select c (evenOp q s.2.1 s.2.2) s.2.1,
    Scalar.select c (oddOp S l s.2.1 s.2.2) s.2.2)

/-- The registers after a frame that a mask guards row by row. -/
def stepRowOp (c : IVec S16x1 1) (P : FVec F S128x128 .f32) (S : FVec F S16x384 .f32) (q : FVec F S16x128 .f32)
    (l : FVec F S16x384 .f32) (s : Regs F) : Regs F :=
  (select (broadcastTo S16x128 (shapeCast S16x1 c shapeCasts_S16x1_S16x1) broadcasts_S16x1_S16x128) (denOp P q s.1) s.1,
    select (broadcastTo S16x384 (shapeCast S16x1 c shapeCasts_S16x1_S16x1) broadcasts_S16x1_S16x384)
      (evenOp q s.2.1 s.2.2) s.2.1,
    select (broadcastTo S16x384 (shapeCast S16x1 c shapeCasts_S16x1_S16x1) broadcasts_S16x1_S16x384)
      (oddOp S l s.2.1 s.2.2) s.2.2)

/-- A row's sum, kept as a column. -/
def rowSumOp (u : FVec F S16x128 .f32) : FVec F S16x1 .f32 :=
  shapeCast S16x1 (multiReduction .add [1] S16 u 0x00000000#32 reduces_S16x128_S16 (.inl rfl) rfl) shapeCasts_S16_S16x1

/-- The rescaling after sixteen frames: the bigram model's sums divided by their row's sum, its
    logarithm added to the carried one. -/
def scaleOp (s : Regs F) (ls : FVec F S16x1 .f32) :
    FVec F S16x128 .f32 × FVec F S16x384 .f32 × FVec F S16x384 .f32 × FVec F S16x1 .f32 :=
  (mulf s.1 (broadcastTo S16x128 (divf (broadcast S16x1 (Scalar.ofBits .f32 0x3F800000#32 : F .f32)) (rowSumOp s.1))
      broadcasts_S16x1_S16x128), s.2.1, s.2.2, addf ls (log (rowSumOp s.1)))

/-- Sixteen frames, one after another. -/
def steps (f : Fin 16 → Regs F → Regs F) (s : Regs F) : Regs F :=
  f 15 (f 14 (f 13 (f 12 (f 11 (f 10 (f 9 (f 8 (f 7 (f 6 (f 5 (f 4 (f 3 (f 2 (f 1 (f 0 s)))))))))))))))

end Cert.Ctc

end
-- ==== Proof.LogSum.lean ====
module

public import Idealize.ShloMosaic.PureOps.Ideal

/-!
# Sums of probabilities, read through their logarithms

A log-domain score is the logarithm of a nonnegative real number, `⊥` standing for the logarithm of
zero. Each of the log-domain operations of the two programs is here an operation on these reals: a
"log-add-exp" adds, adding a finite number multiplies.
-/

@[expose] public section

namespace Cert.Ctc

open Idealize.ShloMosaic

/-- The logarithm of a nonnegative real as an extended real: that of zero is `⊥`. -/
noncomputable def lg (p : ℝ) : EReal := Ideal.log (p : EReal)

theorem lg_pos {p : ℝ} (h : 0 < p) : lg p = ((Real.log p : ℝ) : EReal) := by
  simp [lg, not_le.mpr h]

theorem lg_zero : lg 0 = ⊥ := by
  have : lg 0 = Ideal.log ((0 : ℝ) : EReal) := rfl
  rw [this, Ideal.log_coe, if_pos le_rfl]

/-- The exponential undoes `lg`. -/
theorem exp_lg {p : ℝ} (h : 0 ≤ p) : Ideal.exp (lg p) = (p : EReal) := by
  rcases h.eq_or_lt with h0 | h0
  · subst h0; rw [lg_zero]; simp
  · rw [lg_pos h0, Ideal.exp_coe, Real.exp_log h0]

theorem lg_exp (r : ℝ) : lg (Real.exp r) = (r : EReal) := by
  rw [lg_pos (Real.exp_pos r), Real.log_exp]

/-- Adding a finite score multiplies by its exponential. -/
theorem lg_add_coe {p : ℝ} (h : 0 ≤ p) (r : ℝ) : lg p + (r : EReal) = lg (p * Real.exp r) := by
  rcases h.eq_or_lt with h0 | h0
  · subst h0; rw [zero_mul, lg_zero, EReal.bot_add]
  · rw [lg_pos h0, lg_pos (mul_pos h0 (Real.exp_pos r)), Real.log_mul h0.ne' (Real.exp_pos r).ne',
      Real.log_exp, EReal.coe_add]

theorem lg_le {p q : ℝ} (hp : 0 ≤ p) (h : p ≤ q) : lg p ≤ lg q := by
  rcases hp.eq_or_lt with h0 | h0
  · subst h0; rw [lg_zero]; exact bot_le
  · rw [lg_pos h0, lg_pos (h0.trans_le h)]
    exact EReal.coe_le_coe_iff.mpr (Real.log_le_log h0 h)

theorem lg_ne_top (p : ℝ) : lg p ≠ ⊤ := by
  unfold lg; rw [Ideal.log_coe]; split
  · exact bot_ne_top
  · exact EReal.coe_ne_top _

/-- The stable form of log-add-exp, the larger score first. -/
private theorem lae_of_le {p q : ℝ} (hq : 0 ≤ q) (h : q ≤ p) :
    lg p + Ideal.log1p (Ideal.exp (-max (lg p - lg q) (-(lg p - lg q)))) = lg (p + q) := by
  rcases hq.eq_or_lt with h0 | h0
  · subst h0
    rcases h.eq_or_lt with h1 | h1
    · subst h1; simp [lg_zero, Ideal.log1p]
    · rw [lg_zero, lg_pos h1, add_zero, lg_pos h1]
      have : ((Real.log p : ℝ) : EReal) - ⊥ = ⊤ := by simp [sub_eq_add_neg]
      rw [this]
      have h1' : Ideal.log (1 : EReal) = 0 := by
        have := lg_pos one_pos
        rw [lg, EReal.coe_one, Real.log_one, EReal.coe_zero] at this
        exact this
      simp [Ideal.log1p, h1']
  · have hp : 0 < p := h0.trans_le h
    have hle : Real.log q ≤ Real.log p := Real.log_le_log h0 h
    rw [lg_pos hp, lg_pos h0, lg_pos (add_pos hp h0), ← EReal.coe_sub, ← EReal.coe_neg]
    rw [max_eq_left (EReal.coe_le_coe_iff.mpr (by linarith)), ← EReal.coe_neg, Ideal.exp_coe]
    have he : Real.exp (-(Real.log p - Real.log q)) = q / p := by
      rw [neg_sub, Real.exp_sub, Real.exp_log hp, Real.exp_log h0]
    rw [he]
    have hs : (1 : EReal) + ((q / p : ℝ) : EReal) = ((1 + q / p : ℝ) : EReal) := by
      rw [EReal.coe_add, EReal.coe_one]
    have hpos : 0 < 1 + q / p := by positivity
    rw [Ideal.log1p, hs, Ideal.log_coe, if_neg (not_le.mpr hpos), ← EReal.coe_add]
    congr 1
    rw [← Real.log_mul hp.ne' hpos.ne']
    congr 1
    field_simp

/-- The stable form of log-add-exp adds the probabilities. -/
theorem lae {p q : ℝ} (hp : 0 ≤ p) (hq : 0 ≤ q) :
    max (lg p) (lg q) + Ideal.log1p (Ideal.exp (-max (lg p - lg q) (-(lg p - lg q)))) = lg (p + q) := by
  rcases le_total q p with h | h
  · rw [max_eq_left (lg_le hq h)]; exact lae_of_le hq h
  · rw [max_eq_right (lg_le hp h), add_comm p q, ← lae_of_le hp h]
    have : -(lg p - lg q) = lg q - lg p ∨ p = 0 ∧ q = 0 := by
      rcases hp.eq_or_lt with h0 | h0
      · subst h0
        rcases hq.eq_or_lt with h1 | h1
        · exact Or.inr ⟨rfl, h1.symm⟩
        · left; rw [lg_zero, lg_pos h1]; simp [sub_eq_add_neg]
      · left; rw [lg_pos h0, lg_pos (h0.trans_le h), ← EReal.coe_sub, ← EReal.coe_sub, ← EReal.coe_neg, neg_sub]
    rcases this with h2 | ⟨h2, h3⟩
    · have h3 : lg p - lg q = -(lg q - lg p) := by rw [← h2, neg_neg]
      rw [h2, h3, max_comm]
    · subst h2; subst h3; rfl

/-- The three-way form, shifted by the largest of the scores. -/
theorem lse3 {p q r : ℝ} (hp : 0 ≤ p) (hq : 0 ≤ q) (hr : 0 ≤ r) :
    max (max (lg p) (lg q)) (lg r)
      + Ideal.log (Ideal.exp (lg p - max (max (lg p) (lg q)) (lg r)) + Ideal.exp (lg q - max (max (lg p) (lg q)) (lg r))
          + Ideal.exp (lg r - max (max (lg p) (lg q)) (lg r))) = lg (p + q + r) := by
  obtain ⟨s, hs, hps, hqs, hrs, hm⟩ : ∃ s : ℝ, 0 ≤ s ∧ p ≤ s ∧ q ≤ s ∧ r ≤ s ∧
      max (max (lg p) (lg q)) (lg r) = lg s := by
    have hmax : ∀ {a b : ℝ}, 0 ≤ a → 0 ≤ b → max (lg a) (lg b) = lg (max a b) := fun {a b} ha hb => by
      rcases le_total a b with h | h
      · rw [max_eq_right h, max_eq_right (lg_le ha h)]
      · rw [max_eq_left h, max_eq_left (lg_le hb h)]
    refine ⟨max (max p q) r, le_max_of_le_right hr, by simp, by simp, by simp, ?_⟩
    rw [hmax hp hq, hmax (le_max_of_le_left hp) hr]
  rw [hm]
  rcases hs.eq_or_lt with h0 | h0
  · subst h0
    obtain rfl := le_antisymm hps hp
    obtain rfl := le_antisymm hqs hq
    obtain rfl := le_antisymm hrs hr
    simp [lg_zero]
  · have he : ∀ {a : ℝ}, 0 ≤ a → Ideal.exp (lg a - lg s) = ((a / s : ℝ) : EReal) := fun {a} ha => by
      rcases ha.eq_or_lt with h1 | h1
      · subst h1; rw [lg_zero, lg_pos h0]; simp [sub_eq_add_neg]
      · rw [lg_pos h1, lg_pos h0, ← EReal.coe_sub, Ideal.exp_coe, Real.exp_sub, Real.exp_log h1, Real.exp_log h0]
    rw [he hp, he hq, he hr, ← EReal.coe_add, ← EReal.coe_add]
    change lg s + lg (p / s + q / s + r / s) = _
    rcases (add_nonneg (add_nonneg hp hq) hr).eq_or_lt with h1 | h1
    · have : p / s + q / s + r / s = 0 := by rw [← add_div, ← add_div, ← h1, zero_div]
      rw [this, ← h1, lg_zero, EReal.add_bot]
    · have h2 : 0 < p / s + q / s + r / s := by rw [← add_div, ← add_div]; positivity
      rw [lg_pos h0, lg_pos h2, lg_pos h1, ← EReal.coe_add, ← Real.log_mul h0.ne' h2.ne']
      congr 2
      field_simp

end Cert.Ctc
-- ==== Proof.Model.lean ====
module

public import Mathlib.Analysis.SpecialFunctions.Log.Basic
public import Mathlib.Algebra.BigOperators.Fin

/-!
# The two forward recursions on probabilities

What both programs compute for one utterance, as recursions on real numbers: `num`, the sums over
the paths of the supervision graph (the states `2 j` are blanks, the states `2 j + 1` labels), and
`den`, the sums over the paths of the bigram model. A frame past the utterance's length changes
neither.
-/

@[expose] public section

namespace Cert.Ctc

noncomputable section

/-- A row shifted up by one, zero coming in. -/
def up (f : ℕ → ℝ) : ℕ → ℝ
  | 0 => 0
  | j + 1 => f j

/-- Whether label `j` may be entered straight from label `j - 1`: they differ. -/
def skips (g : ℕ → ℕ) : ℕ → ℝ
  | 0 => 0
  | j + 1 => if g (j + 1) ≠ g j then 1 else 0

/-- One utterance: its frames' log-probabilities by class, its labels, its number of frames, and
    the log-probabilities of the bigram model. -/
structure Utt where
  x : ℕ → ℕ → ℝ
  g : ℕ → ℕ
  n : ℕ
  w : ℕ → ℕ → ℝ

/-- The blanks' sums after frame `t + 1` from the sums (`e`, `o`) after frame `t`. -/
def evenStep (U : Utt) (t : ℕ) (e o : ℕ → ℝ) (j : ℕ) : ℝ := (e j + up o j) * Real.exp (U.x (t + 1) 0)

/-- The labels' sums after frame `t + 1`. -/
def oddStep (U : Utt) (t : ℕ) (e o : ℕ → ℝ) (j : ℕ) : ℝ :=
  (o j + e j + skips U.g j * up o j) * Real.exp (U.x (t + 1) (U.g j))

/-- The bigram model's sums after frame `t + 1`. -/
def denStep (U : Utt) (t : ℕ) (d : ℕ → ℝ) (j : ℕ) : ℝ :=
  (∑ i : Fin 128, d i * Real.exp (U.w i j)) * Real.exp (U.x (t + 1) j)

/-- The sums over the supervision graph after frame `t`: the blanks', and the labels'. -/
def num (U : Utt) : ℕ → (ℕ → ℝ) × (ℕ → ℝ)
  | 0 => (fun j => if j = 0 then Real.exp (U.x 0 0) else 0, fun j => if j = 0 then Real.exp (U.x 0 (U.g 0)) else 0)
  | t + 1 =>
    if t + 1 < U.n then (evenStep U t (num U t).1 (num U t).2, oddStep U t (num U t).1 (num U t).2) else num U t

/-- The bigram model's sums after frame `t`. -/
def den (U : Utt) : ℕ → ℕ → ℝ
  | 0 => fun j => Real.exp (U.x 0 j)
  | t + 1 => if t + 1 < U.n then denStep U t (den U t) else den U t

theorem up_nonneg {f : ℕ → ℝ} (h : ∀ j, 0 ≤ f j) (j : ℕ) : 0 ≤ up f j := by
  cases j with
  | zero => exact le_rfl
  | succ j => exact h j

theorem skips_nonneg (g : ℕ → ℕ) (j : ℕ) : 0 ≤ skips g j := by
  cases j with
  | zero => exact le_rfl
  | succ j => change (0 : ℝ) ≤ if g (j + 1) ≠ g j then 1 else 0; split <;> norm_num

theorem evenStep_nonneg (U : Utt) (t : ℕ) {e o : ℕ → ℝ} (he : ∀ j, 0 ≤ e j) (ho : ∀ j, 0 ≤ o j) (j : ℕ) :
    0 ≤ evenStep U t e o j :=
  mul_nonneg (add_nonneg (he j) (up_nonneg ho j)) (Real.exp_pos _).le

theorem oddStep_nonneg (U : Utt) (t : ℕ) {e o : ℕ → ℝ} (he : ∀ j, 0 ≤ e j) (ho : ∀ j, 0 ≤ o j) (j : ℕ) :
    0 ≤ oddStep U t e o j :=
  mul_nonneg (add_nonneg (add_nonneg (ho j) (he j)) (mul_nonneg (skips_nonneg _ _) (up_nonneg ho j))) (Real.exp_pos _).le

/-- The sums are nonnegative. -/
theorem num_nonneg (U : Utt) (t : ℕ) : (∀ j, 0 ≤ (num U t).1 j) ∧ ∀ j, 0 ≤ (num U t).2 j := by
  induction t with
  | zero =>
    constructor <;> intro j <;> simp only [num] <;> split <;> first | exact (Real.exp_pos _).le | exact le_rfl
  | succ t ih =>
    unfold num; split
    · exact ⟨evenStep_nonneg U t ih.1 ih.2, oddStep_nonneg U t ih.1 ih.2⟩
    · exact ih

theorem denStep_pos (U : Utt) (t : ℕ) {d : ℕ → ℝ} (h : ∀ j, 0 < d j) (j : ℕ) : 0 < denStep U t d j :=
  mul_pos (Finset.sum_pos (fun i _ => mul_pos (h i) (Real.exp_pos _)) Finset.univ_nonempty) (Real.exp_pos _)

/-- The bigram model's sums are positive. -/
theorem den_pos (U : Utt) (t : ℕ) : ∀ j, 0 < den U t j := by
  induction t with
  | zero => exact fun j => Real.exp_pos _
  | succ t ih =>
    unfold den; split
    · exact denStep_pos U t ih
    · exact ih

end

end Cert.Ctc
-- ==== Proof.FrameReads.lean ====
module

public import proofs.«01_k».proof.Proof.StepOps
public import proofs.«01_k».proof.Proof.LogSum
public import proofs.«01_k».proof.Proof.Model
public import Idealize.ShloMosaic.Lib.Pointwise

/-!
# One frame of the kernel, read at its indices over the extended reals

Lane `128 k + l` of a register holds state `3 l + k`.
-/

@[expose] public section

noncomputable section

namespace Cert.Ctc

open Cert.KernelIdeal Cert.KernelIdeal.Gen
open Idealize.ShloMosaic Idealize.ShloMosaic.TcCoe Idealize.ShloMosaic.Tactic

/-- The lane that holds a state. -/
def lane (s : ℕ) : Fin 384 := ⟨128 * (s % 3) + s / 3 % 128, by omega⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem neg_inf : Named.named (F := Ideal) κ "neg_inf" (φ := .f32) 0xF149F2CA#32 = (⊥ : EReal) :=
  IdealRules.named_const.ideal_named_scalar _ _ _ _ rfl

theorem denOp_apply (P : FVec Ideal S128x128 .f32) (q u : FVec Ideal S16x128 .f32) (b : Fin 16) (j : Fin 128) :
    denOp P q u (ix2 b j) = (∑ i : Fin 128, u (ix2 b i) * P (ix2 i j)) * q (ix2 b j) := by
  unfold denOp
  pointwise [dot_S16x128_S128x128_S16x128_1_0_0_1_n_n]

theorem blankOp_apply (q : FVec Ideal S16x128 .f32) (b : Fin 16) :
    blankOp q (ix2 b 0) = Ideal.log (q (ix2 b 0)) := by
  unfold blankOp
  pointwise

theorem shiftOp_first (o : FVec Ideal S16x384 .f32) (b : Fin 16) : shiftOp o (ix2 b (lane 0)) = ⊥ := by
  unfold shiftOp lane
  pointwise [neg_inf]

theorem shiftOp_next (o : FVec Ideal S16x384 .f32) (b : Fin 16) (s : ℕ) (hs : s + 1 < 384) :
    shiftOp o (ix2 b (lane (s + 1))) = o (ix2 b (lane s)) := by
  unfold shiftOp lane
  pointwise
  have h : s / 3 % 128 = s / 3 ∧ (s + 1) / 3 % 128 = (s + 1) / 3 := by omega
  have h3 : s % 3 = 0 ∧ (s + 1) % 3 = 1 ∧ (s + 1) / 3 = s / 3 ∨ s % 3 = 1 ∧ (s + 1) % 3 = 2 ∧ (s + 1) / 3 = s / 3 ∨
      s % 3 = 2 ∧ (s + 1) % 3 = 0 ∧ (s + 1) / 3 = s / 3 + 1 := by omega
  split_ifs <;> first
    | (exfalso; omega)
    | exact congrArg (fun i => o (ix2 b i)) (Fin.ext (by dsimp only; omega))

theorem evenOp_apply (q : FVec Ideal S16x128 .f32) (e o : FVec Ideal S16x384 .f32) (b : Fin 16) (l : Fin 384) :
    evenOp q e o (ix2 b l) = max (e (ix2 b l)) (shiftOp o (ix2 b l)) +
      Ideal.log1p (Ideal.exp (-max (e (ix2 b l) - shiftOp o (ix2 b l)) (-(e (ix2 b l) - shiftOp o (ix2 b l)))))
        + Ideal.log (q (ix2 b 0)) := by
  unfold evenOp laepOp
  pointwise [blankOp_apply, Ideal.absf_def, zero_sub]

theorem oddOp_apply (S l e o : FVec Ideal S16x384 .f32) (b : Fin 16) (i : Fin 384) (T : EReal)
    (hT : T = max (max (o (ix2 b i)) (e (ix2 b i))) (shiftOp o (ix2 b i) + S (ix2 b i))) :
    oddOp S l e o (ix2 b i) = T + Ideal.log (Ideal.exp (o (ix2 b i) - T) + Ideal.exp (e (ix2 b i) - T)
      + Ideal.exp (shiftOp o (ix2 b i) + S (ix2 b i) - T)) + l (ix2 b i) := by
  subst hT
  unfold oddOp topOp
  pointwise

theorem rowSumOp_apply (u : FVec Ideal S16x128 .f32) (b : Fin 16) :
    rowSumOp u (ix2 b 0) = ∑ i : Fin 128, u (ix2 b i) := by
  unfold rowSumOp
  pointwise

theorem scaleOp_apply (s : Regs Ideal) (ls : FVec Ideal S16x1 .f32) (b : Fin 16) (j : Fin 128) :
    (scaleOp s ls).1 (ix2 b j) = s.1 (ix2 b j) * Ideal.div 1 (rowSumOp s.1 (ix2 b 0)) ∧
      (scaleOp s ls).2.2.2 (ix2 b 0) = ls (ix2 b 0) + Ideal.log (rowSumOp s.1 (ix2 b 0)) := by
  unfold scaleOp
  constructor <;> pointwise

/-- What the registers of a row hold after frame `t` of the utterance: the supervision graph's sums in
    the log domain, by state, and the bigram model's sums up to a common positive factor. -/
structure Row (U : Utt) (t : ℕ) (b : Fin 16) (c : ℝ) (s : Regs Ideal) : Prop where
  pos : 0 < c
  u : ∀ j : Fin 128, s.1 (ix2 b j) = ((den U t j / c : ℝ) : EReal)
  e : ∀ j, j ≤ 256 → s.2.1 (ix2 b (lane j)) = lg ((num U t).1 j)
  o : ∀ j, j ≤ 255 → s.2.2 (ix2 b (lane j)) = lg ((num U t).2 j)

/-- The frame's rows, as one utterance has them. -/
structure Given (U : Utt) (t : ℕ) (b : Fin 16) (P : FVec Ideal S128x128 .f32) (S : FVec Ideal S16x384 .f32)
    (q : FVec Ideal S16x128 .f32) (l : FVec Ideal S16x384 .f32) : Prop where
  P : ∀ i j : Fin 128, P (ix2 i j) = ((Real.exp (U.w i j) : ℝ) : EReal)
  S : ∀ j, j + 1 ≤ 255 → S (ix2 b (lane (j + 1))) = lg (skips U.g (j + 1))
  q : ∀ j : Fin 128, q (ix2 b j) = ((Real.exp (U.x t j) : ℝ) : EReal)
  l : ∀ j, j ≤ 255 → l (ix2 b (lane j)) = ((U.x t (U.g j) : ℝ) : EReal)

theorem skips_succ (g : ℕ → ℕ) (j : ℕ) : skips g (j + 1) = 0 ∨ skips g (j + 1) = 1 := by
  change (if g (j + 1) ≠ g j then (1 : ℝ) else 0) = 0 ∨ (if g (j + 1) ≠ g j then (1 : ℝ) else 0) = 1
  split <;> simp

variable {U : Utt} {t : ℕ} {b : Fin 16} {c : ℝ} {P : FVec Ideal S128x128 .f32} {S : FVec Ideal S16x384 .f32}
  {q : FVec Ideal S16x128 .f32} {l : FVec Ideal S16x384 .f32} {s : Regs Ideal}

/-- The labels' scores moved on by one state. -/
theorem Row.shift (h : Row U t b c s) (j : ℕ) (hj : j ≤ 256) :
    shiftOp s.2.2 (ix2 b (lane j)) = lg (up (num U t).2 j) := by
  cases j with
  | zero => rw [shiftOp_first, up, lg_zero]
  | succ j => rw [shiftOp_next _ _ _ (by omega), h.o j (by omega), up]

/-- One frame of a row: the registers move to the next frame's sums. -/
theorem Row.step (h : Row U t b c s) (g : Given U (t + 1) b P S q l) (hn : t + 1 < U.n) :
    Row U (t + 1) b c (stepOp P S q l s) := by
  have he := (num_nonneg U t).1
  have ho := (num_nonneg U t).2
  have hnum : num U (t + 1) = (evenStep U t (num U t).1 (num U t).2, oddStep U t (num U t).1 (num U t).2) := by
    rw [num, if_pos hn]
  have hden : den U (t + 1) = denStep U t (den U t) := by rw [den, if_pos hn]
  refine ⟨h.pos, fun j => ?_, fun j hj => ?_, fun j hj => ?_⟩
  · change denOp P q s.1 (ix2 b j) = _
    rw [denOp_apply, g.q, hden]
    simp only [h.u, g.P, ← EReal.coe_mul]
    rw [← coe_sum, ← EReal.coe_mul]
    congr 1
    unfold denStep
    rw [mul_div_right_comm, Finset.sum_div]
    exact congrArg (· * _) (Finset.sum_congr rfl fun i _ => by ring)
  · change evenOp q s.2.1 s.2.2 (ix2 b (lane j)) = _
    rw [evenOp_apply, h.shift j hj, h.e j hj, lae (he j) (up_nonneg ho j), hnum]
    have hq := g.q 0
    rw [hq]
    change _ + lg (Real.exp _) = _
    rw [lg_exp, lg_add_coe (add_nonneg (he j) (up_nonneg ho j))]
    rfl
  · change oddOp S l s.2.1 s.2.2 (ix2 b (lane j)) = _
    have hs : shiftOp s.2.2 (ix2 b (lane j)) + S (ix2 b (lane j)) = lg (skips U.g j * up (num U t).2 j) := by
      rw [h.shift j (by omega)]
      cases j with
      | zero => rw [up, lg_zero, mul_zero, lg_zero, EReal.bot_add]
      | succ j =>
        rw [g.S j hj]
        rcases skips_succ U.g j with h0 | h0 <;> rw [h0]
        · rw [lg_zero, zero_mul, lg_zero, EReal.add_bot]
        · rw [one_mul, lg_pos one_pos, Real.log_one, EReal.coe_zero, add_zero]
    have hk := mul_nonneg (skips_nonneg U.g j) (up_nonneg ho j)
    rw [oddOp_apply _ _ _ _ _ _ _ rfl, hs, h.e j (by omega), h.o j hj, lse3 (ho j) (he j) hk, g.l j hj, hnum,
      lg_add_coe (add_nonneg (add_nonneg (ho j) (he j)) hk)]
    rfl

/-- A frame past the row's end keeps the sums. -/
theorem Row.keep (h : Row U t b c s) (hn : ¬ t + 1 < U.n) : Row U (t + 1) b c s := by
  have hnum : num U (t + 1) = num U t := by rw [num, if_neg hn]
  have hden : den U (t + 1) = den U t := by rw [den, if_neg hn]
  exact ⟨h.pos, by rw [hden]; exact h.u, by rw [hnum]; exact h.e, by rw [hnum]; exact h.o⟩

/-- The rescaling keeps the row, its factor now in the carried logarithm. -/
theorem Row.scale (h : Row U t b c s) (ls : FVec Ideal S16x1 .f32) {r : ℝ} (hr : 0 < r)
    (hl : ls (ix2 b 0) = ((Real.log r : ℝ) : EReal)) :
    ∃ c' > 0, Row U t b (c * c') ((scaleOp s ls).1, (scaleOp s ls).2.1, (scaleOp s ls).2.2.1) ∧
      (scaleOp s ls).2.2.2 (ix2 b 0) = ((Real.log (r * c') : ℝ) : EReal) := by
  have hd := den_pos U t
  have hS : 0 < ∑ i : Fin 128, den U t i / c :=
    Finset.sum_pos (fun i _ => div_pos (hd i) h.pos) Finset.univ_nonempty
  have hsum : rowSumOp s.1 (ix2 b 0) = ((∑ i : Fin 128, den U t i / c : ℝ) : EReal) := by
    rw [rowSumOp_apply]; simp only [h.u]; rw [← coe_sum]
  refine ⟨_, hS, ⟨mul_pos h.pos hS, fun j => ?_, h.e, h.o⟩, ?_⟩
  · change (scaleOp s ls).1 (ix2 b j) = _
    rw [(scaleOp_apply s ls b j).1, hsum, h.u, Ideal.div_coe hS.ne', one_mul, ← EReal.coe_mul]
    congr 1
    rw [div_mul_eq_div_div, div_eq_mul_inv (den U t j / c), one_div]
  · rw [(scaleOp_apply s ls b 0).2, hsum, hl]
    change _ + lg _ = _
    rw [lg_pos hS, ← EReal.coe_add, Real.log_mul hr.ne' hS.ne']

end Cert.Ctc

end
-- ==== Proof.Trips.lean ====
module

public import proofs.«01_k».proof.Proof.Gen.KernelIdeal.Loops
public import proofs.«01_k».proof.Proof.StepOps

/-!
# A trip of the kernel's loops is sixteen frames and a rescaling

Each of the kernel's three loops runs the frames of a chunk, sixteen to a trip. Here a trip's result
is read as the operations of `StepOps`, for each of the three ways in which a frame is guarded.
-/

@[expose] public section

set_option maxRecDepth 65536
set_option maxHeartbeats 4000000

noncomputable section

namespace Cert.Ctc

open Cert.KernelIdeal Cert.KernelIdeal.Gen
open Idealize.ShloMosaic Idealize.ShloMosaic.TcCoe Idealize.ShloMosaic.Tactic

variable {F : FTy → Type} [FloatOps F] [Named F]

section Registers

variable {P : FVec F S128x128 .f32} {S : FVec F S16x384 .f32} {q : FVec F S16x128 .f32} {l : FVec F S16x384 .f32}
  {s : Regs F} {u : FVec F S16x128 .f32} {e o : FVec F S16x384 .f32} {ls : FVec F S16x1 .f32}

theorem step_eq (h : s = (u, e, o)) : stepOp P S q l s = (denOp P q u, evenOp q e o, oddOp S l e o) := by
  rw [h]; rfl

theorem stepAll_eq {c : BitVec 1} (h : s = (u, e, o)) : stepAllOp c P S q l s =
    (Scalar.select c (denOp P q u) u, Scalar.select c (evenOp q e o) e, Scalar.select c (oddOp S l e o) o) := by
  rw [h]; rfl

theorem stepRow_eq {c : IVec S16x1 1} (h : s = (u, e, o)) : stepRowOp c P S q l s =
    (select (broadcastTo S16x128 (shapeCast S16x1 c shapeCasts_S16x1_S16x1) broadcasts_S16x1_S16x128) (denOp P q u) u,
    select (broadcastTo S16x384 (shapeCast S16x1 c shapeCasts_S16x1_S16x1) broadcasts_S16x1_S16x384) (evenOp q e o) e,
    select (broadcastTo S16x384 (shapeCast S16x1 c shapeCasts_S16x1_S16x1) broadcasts_S16x1_S16x384) (oddOp S l e o) o) := by
  rw [h]; rfl

theorem scale_eq (h : s = (u, e, o)) :
    scaleOp s ls = ((scaleOp (u, e, o) ls).1, e, o, (scaleOp (u, e, o) ls).2.2.2) := by
  rw [h]; rfl

end Registers

/-- The word that guards a frame of the first chunk: the trip is not the first, or the frame is not its first. -/
def notFirst (k : ℕ) (n : Fin 16) : BitVec 1 :=
  Scalar.ori (Scalar.cmpi .sgt (Scf.iv 0#32 1#32 k) 0#32) (if n.val = 0 then 0#1 else 1#1)

/-- The mask that guards a frame of the last chunks: the frame is before the row's end. -/
def beforeEnd (i : BitVec 32) (v : IVec S16x1 32) (k : ℕ) (n : Fin 16) : IVec S16x1 1 :=
  cmpi .slt (broadcast S16x1 (Scalar.addi (Scalar.addi (Scalar.muli i 256#32) (Scalar.muli (Scf.iv 0#32 1#32 k) 16#32))
    (BitVec.ofNat 32 n.val))) (shapeCast S16x1 v shapeCasts_S16x1_S16x1)

variable (𝒱 : Variants) (c : Dev nD) (bd : Option 𝒱.V) (i : grid0.Coords) (arg1 : Memref sig .tc .vmem S16x256x128 .f32)
  (harg1 : arg1.IsWhole) (arg2 : Memref sig .tc .vmem S16x384 .i32) (harg2 : arg2.IsWhole)
  (arg3 : Memref sig .tc .vmem S16x1 .i32) (harg3 : arg3.IsWhole) (arg4 : Memref sig .tc .vmem S16x1 .i32)
  (harg4 : arg4.IsWhole) (arg5 : Memref sig .tc .vmem S128x128 .f32) (harg5 : arg5.IsWhole)
  (arg6 : Memref sig .tc .vmem S1x1 .f32) (harg6 : arg6.IsWhole) (arg7 : Memref sig .tc .vmem S128x128 .f32)
  (harg7 : arg7.IsWhole) (arg8 : Memref sig .tc .vmem S16x128x384 .f32) (harg8 : arg8.IsWhole)
  (arg9 : Memref sig .tc .vmem S16x384 .f32) (harg9 : arg9.IsWhole)
  (arg10 : Memref sig .tc .vmem S16x256x128 .f32) (harg10 : arg10.IsWhole)
  (arg11 : Memref sig .tc .vmem S16x256x384 .f32) (harg11 : arg11.IsWhole)
  (arg12 : Memref sig .tc .vmem S16x128 .f32) (harg12 : arg12.IsWhole)
  (arg13 : Memref sig .tc .vmem S16x384 .f32) (harg13 : arg13.IsWhole)
  (arg14 : Memref sig .tc .vmem S16x384 .f32) (harg14 : arg14.IsWhole) (arg15 : Memref sig .tc .vmem S16x1 .f32)
  (harg15 : arg15.IsWhole) (X_arg7 : BufTy.Contents (Elt F) arg7.view.ty)
  (X_arg9 : BufTy.Contents (Elt F) arg9.view.ty) (X_arg10 : BufTy.Contents (Elt F) arg10.view.ty)
  (X_arg11 : BufTy.Contents (Elt F) arg11.view.ty)

/-- A trip of the first chunk's loop. -/
theorem trip1_eq (k0_h2 : k0_cond2 i = 1#1) (k : Fin k0_t1_loop.trips)
    (acc : Vec F S16x128 .f32 × Vec F S16x384 .f32 × Vec F S16x384 .f32 × Vec F S16x1 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15
        k0_h2 X_arg7 X_arg9 X_arg10 X_arg11 k acc =
      scaleOp (steps (fun n => stepAllOp (notFirst k n)
        (View.readAt (Elt F) arg7.view (Rect.unit (s := S128x128) ![0, 0] S128x128.size inb_S128x128_S128x128_0_0).toLoadRect X_arg7)
        (View.readAt (Elt F) arg9.view (Rect.unit (s := S16x384) ![0, 0] S16x384.size inb_S16x384_S16x384_0_0).toLoadRect X_arg9)
        (shapeCast S16x128 (View.readAt (Elt F) arg10.view (Rect.unit (s := S16x256x128) (k0_off1 k (BitVec.ofNat 32 n.val)) S16x1x128.size (k0_off1_inb i k k0_h2 n)).toLoadRect X_arg10) shapeCasts_S16x1x128_S16x128)
        (shapeCast S16x384 (View.readAt (Elt F) arg11.view (Rect.unit (s := S16x256x384) (k0_off2 k (BitVec.ofNat 32 n.val)) S16x1x384.size (k0_off2_inb i k k0_h2 n)).toLoadRect X_arg11) shapeCasts_S16x1x384_S16x384)) (acc.1, acc.2.1, acc.2.2.1)) acc.2.2.2 := by
  dsimp only [tripR_k0_t1]
  rw [trip_k0_t1]
  dsimp only
  sl_unfold_run_names
  symm
  refine scale_eq ?_
  dsimp only [steps]
  iterate 16 refine stepAll_eq ?_
  rfl

/-- A trip of the loop of the chunks that no row ends in. -/
theorem trip2_eq (k0_h3 : k0_cond3 i = 1#1) (k : Fin k0_t2_loop.trips)
    (acc : Vec F S16x128 .f32 × Vec F S16x384 .f32 × Vec F S16x384 .f32 × Vec F S16x1 .f32) :
    tripR_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15
        k0_h3 X_arg7 X_arg9 X_arg10 X_arg11 k acc =
      scaleOp (steps (fun n => stepOp
        (View.readAt (Elt F) arg7.view (Rect.unit (s := S128x128) ![0, 0] S128x128.size inb_S128x128_S128x128_0_0).toLoadRect X_arg7)
        (View.readAt (Elt F) arg9.view (Rect.unit (s := S16x384) ![0, 0] S16x384.size inb_S16x384_S16x384_0_0).toLoadRect X_arg9)
        (shapeCast S16x128 (View.readAt (Elt F) arg10.view (Rect.unit (s := S16x256x128) (k0_off3 k (BitVec.ofNat 32 n.val)) S16x1x128.size (k0_off3_inb i k k0_h3 n)).toLoadRect X_arg10) shapeCasts_S16x1x128_S16x128)
        (shapeCast S16x384 (View.readAt (Elt F) arg11.view (Rect.unit (s := S16x256x384) (k0_off4 k (BitVec.ofNat 32 n.val)) S16x1x384.size (k0_off4_inb i k k0_h3 n)).toLoadRect X_arg11) shapeCasts_S16x1x384_S16x384)) (acc.1, acc.2.1, acc.2.2.1)) acc.2.2.2 := by
  dsimp only [tripR_k0_t2]
  rw [trip_k0_t2]
  dsimp only
  sl_unfold_run_names
  symm
  refine scale_eq ?_
  dsimp only [steps]
  iterate 16 refine step_eq ?_
  rfl

/-- A trip of the loop of the last chunks. -/
theorem trip3_eq (arg0 : BitVec 32) (v218 : Vec F S16x1 .i32) (k0_h4 : k0_cond4 i = 1#1) (k : Fin k0_t3_loop.trips)
    (acc : Vec F S16x128 .f32 × Vec F S16x384 .f32 × Vec F S16x384 .f32 × Vec F S16x1 .f32) :
    tripR_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15
        arg0 v218 k0_h4 X_arg7 X_arg9 X_arg10 X_arg11 k acc =
      scaleOp (steps (fun n => stepRowOp (beforeEnd arg0 v218 k n)
        (View.readAt (Elt F) arg7.view (Rect.unit (s := S128x128) ![0, 0] S128x128.size inb_S128x128_S128x128_0_0).toLoadRect X_arg7)
        (View.readAt (Elt F) arg9.view (Rect.unit (s := S16x384) ![0, 0] S16x384.size inb_S16x384_S16x384_0_0).toLoadRect X_arg9)
        (shapeCast S16x128 (View.readAt (Elt F) arg10.view (Rect.unit (s := S16x256x128) (k0_off5 k (BitVec.ofNat 32 n.val)) S16x1x128.size (k0_off5_inb i k k0_h4 n)).toLoadRect X_arg10) shapeCasts_S16x1x128_S16x128)
        (shapeCast S16x384 (View.readAt (Elt F) arg11.view (Rect.unit (s := S16x256x384) (k0_off6 k (BitVec.ofNat 32 n.val)) S16x1x384.size (k0_off6_inb i k k0_h4 n)).toLoadRect X_arg11) shapeCasts_S16x1x384_S16x384)) (acc.1, acc.2.1, acc.2.2.1)) acc.2.2.2 := by
  dsimp only [tripR_k0_t3]
  rw [trip_k0_t3]
  dsimp only
  sl_unfold_run_names
  symm
  refine scale_eq ?_
  dsimp only [steps]
  iterate 16 refine stepRow_eq ?_
  rfl

end Cert.Ctc

end
-- ==== Proof.LoopRows.lean ====
module

public import proofs.«01_k».proof.Proof.FrameReads
public import proofs.«01_k».proof.Proof.Trips

/-!
# A row through the frames of a chunk

A row of the registers is carried through one guarded frame, the sixteen frames of a trip, and the
sixteen trips of a chunk.
-/

@[expose] public section

set_option maxRecDepth 65536

noncomputable section

namespace Cert.Ctc

open Cert.KernelIdeal Cert.KernelIdeal.Gen
open Idealize.ShloMosaic Idealize.ShloMosaic.TcCoe Idealize.ShloMosaic.Tactic

variable {U : Utt} {b : Fin 16} {c : ℝ} {P : FVec Ideal S128x128 .f32} {S : FVec Ideal S16x384 .f32}
  {q : FVec Ideal S16x128 .f32} {l : FVec Ideal S16x384 .f32} {s : Regs Ideal}

/-- The registers and the carried logarithm, and the row's one real factor in both. -/
def Carried (U : Utt) (t : ℕ) (b : Fin 16)
    (a : Vec Ideal S16x128 .f32 × Vec Ideal S16x384 .f32 × Vec Ideal S16x384 .f32 × Vec Ideal S16x1 .f32) : Prop :=
  ∃ c : ℝ, Row U t b c (a.1, a.2.1, a.2.2.1) ∧ a.2.2.2 (ix2 b 0) = ((Real.log c : ℝ) : EReal)

/-- Frame `g` takes a row on: before it the row stands at the frame before (at the first frame for frame 0). -/
def Advances (U : Utt) (b : Fin 16) (g : ℕ) (f : Regs Ideal → Regs Ideal) : Prop :=
  ∀ s c, Row U (g - 1) b c s → Row U g b c (f s)

/-- An unguarded frame before the row's end. -/
theorem advances_step {g : ℕ} (h0 : 0 < g) (hn : g < U.n) (G : Given U g b P S q l) :
    Advances U b g (stepOp P S q l) := by
  intro s c h
  obtain ⟨t, rfl⟩ : ∃ t, g = t + 1 := ⟨g - 1, by omega⟩
  exact Row.step h G hn

/-- A frame guarded for all rows at once; its guard is off at frame 0. -/
theorem advances_stepAll {g : ℕ} {w : BitVec 1} (hw : w = if g = 0 then 0#1 else 1#1) (hn : g < U.n)
    (G : Given U g b P S q l) : Advances U b g (stepAllOp w P S q l) := by
  intro s c h
  by_cases h0 : g = 0
  · subst h0; rw [hw]; exact h
  · rw [hw, if_neg h0]; exact advances_step (by omega) hn G s c h

/-- A frame guarded row by row: the row's guard says that the frame is before its end. -/
theorem advances_stepRow {g : ℕ} {w : IVec S16x1 1} (h0 : 0 < g) (hw : w (ix2 b 0) = if g < U.n then 1#1 else 0#1)
    (G : g < U.n → Given U g b P S q l) : Advances U b g (stepRowOp w P S q l) := by
  intro s c h
  have hb : ∀ {n : ℕ} (hn : S16x1.Broadcasts ⟨2, ![16, n]⟩) (j : Fin n) (x y : FVec Ideal ⟨2, ![16, n]⟩ .f32),
      select (broadcastTo ⟨2, ![16, n]⟩ (shapeCast S16x1 w shapeCasts_S16x1_S16x1) hn) x y (ix2 b j) =
        if g < U.n then x (ix2 b j) else y (ix2 b j) := by
    intro n hn j x y
    pointwise
    rw [hw]
    split <;> rfl
  by_cases hn : g < U.n
  · have hs := advances_step h0 hn (G hn) s c h
    exact ⟨hs.pos, fun j => ((hb _ _ _ _).trans (if_pos hn)).trans (hs.u j),
      fun j hj => ((hb _ _ _ _).trans (if_pos hn)).trans (hs.e j hj),
      fun j hj => ((hb _ _ _ _).trans (if_pos hn)).trans (hs.o j hj)⟩
  · obtain ⟨t, rfl⟩ : ∃ t, g = t + 1 := ⟨g - 1, by omega⟩
    have hs := Row.keep (t := t) h hn
    exact ⟨hs.pos, fun j => ((hb _ _ _ _).trans (if_neg hn)).trans (hs.u j),
      fun j hj => ((hb _ _ _ _).trans (if_neg hn)).trans (hs.e j hj),
      fun j hj => ((hb _ _ _ _).trans (if_neg hn)).trans (hs.o j hj)⟩

/-- Sixteen frames. -/
theorem advances_steps {g : ℕ} {f : Fin 16 → Regs Ideal → Regs Ideal} (hf : ∀ n : Fin 16, Advances U b (g + n.val) (f n))
    (h : Row U (g - 1) b c s) : Row U (g + 15) b c (steps f s) :=
  hf 15 _ _ (hf 14 _ _ (hf 13 _ _ (hf 12 _ _ (hf 11 _ _ (hf 10 _ _ (hf 9 _ _ (hf 8 _ _ (hf 7 _ _ (hf 6 _ _
    (hf 5 _ _ (hf 4 _ _ (hf 3 _ _ (hf 2 _ _ (hf 1 _ _ (hf 0 _ _ h)))))))))))))))

/-- Sixteen frames and the rescaling. -/
theorem carried_trip {g : ℕ} {f : Fin 16 → Regs Ideal → Regs Ideal} (hf : ∀ n : Fin 16, Advances U b (g + n.val) (f n))
    {a : Vec Ideal S16x128 .f32 × Vec Ideal S16x384 .f32 × Vec Ideal S16x384 .f32 × Vec Ideal S16x1 .f32}
    (h : Carried U (g - 1) b a) : Carried U (g + 15) b (scaleOp (steps f (a.1, a.2.1, a.2.2.1)) a.2.2.2) := by
  obtain ⟨c, hr, hl⟩ := h
  obtain ⟨c', _, hr', hl'⟩ := (advances_steps hf hr).scale a.2.2.2 hr.pos hl
  exact ⟨c * c', hr', hl'⟩

/-- The trips of a chunk. -/
theorem carried_trips {g : ℕ}
    {st : ℕ → Vec Ideal S16x128 .f32 × Vec Ideal S16x384 .f32 × Vec Ideal S16x384 .f32 × Vec Ideal S16x1 .f32} {N : ℕ}
    (hst : ∀ k < N, ∃ f : Fin 16 → Regs Ideal → Regs Ideal,
      st (k + 1) = scaleOp (steps f ((st k).1, (st k).2.1, (st k).2.2.1)) (st k).2.2.2 ∧
        ∀ n : Fin 16, Advances U b (g + 16 * k + n.val) (f n)) (h0 : Carried U (g - 1) b (st 0)) :
    Carried U (g + 16 * N - 1) b (st N) := by
  induction N with
  | zero => exact h0
  | succ N ih =>
    have h := ih fun k hk => hst k (by omega)
    obtain ⟨f, he, hf⟩ := hst N (by omega)
    rw [he]
    exact carried_trip hf h

/-- Words below the sign compare as the naturals they hold. -/
theorem word_slt (m n : ℕ) (hm : m < 2 ^ 31) (hn : n < 2 ^ 31) :
    IntOp.cmpi .slt (BitVec.ofNat 32 m) (BitVec.ofNat 32 n) = if m < n then 1#1 else 0#1 := by
  have ht : ∀ k : ℕ, k < 2 ^ 31 → (BitVec.ofNat 32 k).toInt = k := by
    intro k hk
    rw [BitVec.toInt_eq_toNat_of_lt (by rw [BitVec.toNat_ofNat]; omega), BitVec.toNat_ofNat,
      Nat.mod_eq_of_lt (by omega)]
  unfold IntOp.cmpi
  simp only [BitVec.slt, ht m hm, ht n hn, Nat.cast_lt]
  by_cases h : m < n <;> simp [h]

/-- The guard of the first chunk's frames is off at frame 0 alone. -/
theorem notFirst_eq (k : ℕ) (hk : k < 16) (n : Fin 16) :
    notFirst k n = if 16 * k + n.val = 0 then 0#1 else 1#1 := by
  have h : ∀ k n : Fin 16, notFirst k.val n = if 16 * k.val + n.val = 0 then 0#1 else 1#1 := by decide
  exact h ⟨k, hk⟩ n

/-- The guard of the last chunks' frames compares the frame with the row's length. -/
theorem beforeEnd_eq (i k : ℕ) (hi : i < 8) (hk : k < 16) (n : Fin 16) (v : IVec S16x1 32) (N : ℕ) (hN : N ≤ 2048)
    (hv : v (ix2 b 0) = BitVec.ofNat 32 N) :
    beforeEnd (BitVec.ofNat 32 i) v k n (ix2 b 0) = if 256 * i + 16 * k + n.val < N then 1#1 else 0#1 := by
  have hn := n.isLt
  have hw : Scalar.addi (Scalar.addi (Scalar.muli (BitVec.ofNat 32 i) 256#32) (Scalar.muli (Scf.iv 0#32 1#32 k) 16#32))
      (BitVec.ofNat 32 n.val) = BitVec.ofNat 32 (256 * i + 16 * k + n.val) := by
    unfold Scalar.addi Scalar.muli Scf.iv IntOp.addi IntOp.muli
    apply BitVec.eq_of_toNat_eq
    simp only [BitVec.toNat_add, BitVec.toNat_mul, BitVec.toNat_ofNat]
    omega
  unfold beforeEnd
  rw [hw]
  pointwise
  rw [hv, word_slt _ _ (by omega) (by omega)]

end Cert.Ctc

end
-- ==== Proof.Chunk.lean ====
module

public import proofs.«01_k».proof.Proof.LoopRows
public import Idealize.ShloMosaic.Lib.Pipeline.ReadBack

/-!
# A chunk of 256 frames

The rows that the loops read — the chunk's exponentiated scores, and the labels' own scores picked
by a product with the labels' indicator — and a row of the registers carried through each of the
three loops.
-/

@[expose] public section

set_option maxRecDepth 65536
set_option maxHeartbeats 1000000

noncomputable section

namespace Cert.Ctc

open Cert.KernelIdeal Cert.KernelIdeal.Gen
open Idealize.ShloMosaic Idealize.ShloMosaic.TcCoe Idealize.ShloMosaic.Tactic

/-- The state that a lane's word holds, as the kernel computes it: three times the remainder by 128, and the quotient. -/
def laneState (v : BitVec 32) : BitVec 32 :=
  let d := Scalar.select (Scalar.cmpi .eq 128#32 0#32) 1#32 128#32
  let r := IntOp.remsi .vector v d
  let q := IntOp.divsi .vector v 128#32
  IntOp.addi
    (IntOp.muli 3#32
      (Scalar.select (IntOp.andi (IntOp.xori (IntOp.cmpi .slt r 0#32) (Scalar.cmpi .slt d 0#32)) (IntOp.cmpi .ne r 0#32))
        (IntOp.addi r d) r))
    (Scalar.select
      (IntOp.andi
        (IntOp.cmpi .ne (IntOp.subi (BitVec.setWidth 32 (IntOp.cmpi .sgt v 0#32)) (BitVec.setWidth 32 (IntOp.cmpi .slt v 0#32)))
          (Scalar.subi 1#32 (Scalar.extui (Scalar.cmpi .slt 128#32 0#32))))
        (IntOp.cmpi .ne (IntOp.remsi .vector v 128#32) 0#32))
      (IntOp.subi q 1#32) q)

theorem laneState_eq : ∀ l : Fin 384, laneState (BitVec.ofNat 32 l.val) = BitVec.ofNat 32 (3 * (l.val % 128) + l.val / 128) := by
  decide

/-- A state's lane holds the state. -/
theorem laneState_lane (j : ℕ) (hj : j < 384) : laneState (BitVec.ofNat 32 (lane j).val) = BitVec.ofNat 32 j := by
  rw [laneState_eq]
  congr 1
  change 3 * ((128 * (j % 3) + j / 3 % 128) % 128) + (128 * (j % 3) + j / 3 % 128) / 128 = j
  rw [Nat.mod_eq_of_lt (show j / 3 < 128 by omega)]
  have h1 : (128 * (j % 3) + j / 3) % 128 = j / 3 := by omega
  have h2 : (128 * (j % 3) + j / 3) / 128 = j % 3 := by omega
  rw [h1, h2]
  omega

/-- What is added to the labels' scores, lane by lane: nothing where the lane holds a label. -/
def padOp : FVec Ideal S1x384 .f32 :=
  k0_pay437 (F := Ideal) (iota .tc S1x384 32 [1] iota_S1x384_d1_w32) k0_pay434 128#32 k0_pay435 k0_pay436 1#32

theorem padOp_apply (j : ℕ) (hj : j ≤ 255) : padOp (ix2 0 (lane j)) = 0 := by
  unfold padOp k0_pay437 k0_pay434 k0_pay435 k0_pay436
  pointwise
  change Scalar.select (IntOp.cmpi .sge (laneState (BitVec.ofNat 32 (lane j).val)) 256#32) _ (0 : EReal) = 0
  rw [laneState_lane j (by omega)]
  have h : ∀ j : Fin 256, IntOp.cmpi .sge (BitVec.ofNat 32 j.val) 256#32 = 0#1 := by decide
  rw [h ⟨j, by omega⟩]
  rfl

/-- The labels' scores of a chunk, from its scores and the labels' indicator. -/
def labelScores (x : FVec Ideal S16x256x128 .f32) (h : Vec Ideal S16x128x384 .f32) : Vec Ideal S16x256x384 .f32 :=
  fun y => (∑ k : Fin 128, x (ix3 (y 0) (y 1) k) * h (ix3 (y 0) k (y 2))) + padOp (ix2 0 (y 2))

/-- One utterance's product, as it is stored. -/
def labelRow (n : ℕ) (hs : S16x256x128.Slices ![n, 0, 0] S1x256x128) (x : FVec Ideal S16x256x128 .f32)
    (h : Vec Ideal S1x128x384 .f32) : Vec Ideal S1x256x384 .f32 :=
  shapeCast S1x256x384 (addf
    (matmul dot_S256x128_S128x384_S256x384_1_0_0_1_n_n none
      (shapeCast S256x128 (extractStridedSlice S1x256x128 ![n, 0, 0] x hs) shapeCasts_S1x256x128_S256x128)
      (shapeCast S128x384 h shapeCasts_S1x128x384_S128x384 : FVec Ideal S128x384 .f32) (constant S256x384 .f32 0x00000000#32))
    (broadcastTo S256x384 padOp broadcasts_S1x384_S256x384)) shapeCasts_S256x384_S1x256x384

/-- One utterance's product is the labels' scores of that utterance. -/
theorem labelRow_piece (n : ℕ) (hn : n < 16) (hs : S16x256x128.Slices ![n, 0, 0] S1x256x128)
    (x : FVec Ideal S16x256x128 .f32) (h : Vec Ideal S16x128x384 .f32)
    (inb : ∀ a, ![n, 0, 0] a + S1x256x384.size a ≤ S16x256x384.size a)
    (inb' : ∀ a, ![n, 0, 0] a + S1x128x384.size a ≤ S16x128x384.size a)
    (y : (Rect.unit (s := S16x256x384) ![n, 0, 0] S1x256x384.size inb).shape.Idx) :
    labelRow n hs x (View.ld (Val := Elt Ideal) (e' := .f32) h (Rect.unit (s := S16x128x384) ![n, 0, 0] S1x128x384.size inb')) y =
      labelScores x h ((Rect.unit (s := S16x256x384) ![n, 0, 0] S1x256x384.size inb).emb y) := by
  obtain ⟨a, r, l, rfl⟩ : ∃ a r l, y = ix3 (n0 := 1) (n1 := 256) (n2 := 384) a r l := ⟨y 0, y 1, y 2, eq_ix3 y⟩
  have e : (Rect.unit (s := S16x256x384) ![n, 0, 0] S1x256x384.size inb).emb (ix3 (n0 := 1) (n1 := 256) (n2 := 384) a r l) =
      ix3 (n0 := 16) (n1 := 256) (n2 := 384) ⟨n, hn⟩ r l := by
    funext k
    apply Fin.ext
    rw [Rect.emb_apply]
    have ha := a.isLt
    match k with
    | ⟨0, _⟩ => change n + 1 * a.val = n; omega
    | ⟨1, _⟩ => change 0 + 1 * r.val = r.val; omega
    | ⟨2, _⟩ => change 0 + 1 * l.val = l.val; omega
  rw [e]
  unfold labelRow labelScores
  pointwise [dot_S256x128_S128x384_S256x384_1_0_0_1_n_n]

/-- What the stores of the utterances' products leave. -/
theorem labelScores_read (v : View sig .tc .vmem S16x256x384 .f32) (L : List (View.Piece (Elt Ideal) S16x256x384 .f32))
    (x : FVec Ideal S16x256x128 .f32) (h : Vec Ideal S16x128x384 .f32) (hL : View.PiecesOf (labelScores x h) L)
    (hc : ∀ y, ∃ p ∈ L, y ∈ p.1.set) :
    v.read (Elt Ideal) (v.writes (Elt Ideal) v.junk L) = labelScores x h := by
  rw [View.read_writes_junk_eq_canon]
  exact funext fun y => View.canon_apply_of_pieces _ L hL.mem y (hc y)

/-- The chunk's rows, as one utterance has them: `g` is the chunk's first frame. -/
structure Chunk (U : Utt) (g : ℕ) (b : Fin 16) (P : Vec Ideal S128x128 .f32) (S : Vec Ideal S16x384 .f32)
    (Q : Vec Ideal S16x256x128 .f32) (L : Vec Ideal S16x256x384 .f32) : Prop where
  P : ∀ i j : Fin 128, P (ix2 i j) = ((Real.exp (U.w i j) : ℝ) : EReal)
  S : ∀ j, j + 1 ≤ 255 → S (ix2 b (lane (j + 1))) = lg (skips U.g (j + 1))
  Q : ∀ (r : Fin 256) (j : Fin 128), Q (ix3 b r j) = ((Real.exp (U.x (g + r.val) j) : ℝ) : EReal)
  L : ∀ (r : Fin 256) (j : ℕ), j ≤ 255 → L (ix3 b r (lane j)) = ((U.x (g + r.val) (U.g j) : ℝ) : EReal)

variable {U : Utt} {g : ℕ} {b : Fin 16} {P : Vec Ideal S128x128 .f32} {S : Vec Ideal S16x384 .f32}
  {Q : Vec Ideal S16x256x128 .f32} {L : Vec Ideal S16x256x384 .f32}

/-- A chunk's row read out of the stored blocks. -/
theorem Chunk.row (h : Chunk U g b P S Q L) (r : ℕ) (hr : r < 256) (o o' : Fin 3 → ℕ) (ho : o = ![0, r, 0])
    (ho' : o' = ![0, r, 0]) (inb : ∀ a, o a + S16x1x128.size a ≤ S16x256x128.size a)
    (inb' : ∀ a, o' a + S16x1x384.size a ≤ S16x256x384.size a) :
    Given U (g + r) b P S
      (shapeCast S16x128 (View.ld (Val := Elt Ideal) (e' := .f32) Q (Rect.unit (s := S16x256x128) o S16x1x128.size inb))
        shapeCasts_S16x1x128_S16x128)
      (shapeCast S16x384 (View.ld (Val := Elt Ideal) (e' := .f32) L (Rect.unit (s := S16x256x384) o' S16x1x384.size inb'))
        shapeCasts_S16x1x384_S16x384) := by
  subst ho ho'
  refine ⟨h.P, h.S, fun j => ?_, fun j hj => ?_⟩
  · refine Eq.trans ?_ (h.Q ⟨r, hr⟩ j)
    pointwise
  · refine Eq.trans ?_ (h.L ⟨r, hr⟩ j hj)
    pointwise

variable (𝒱 : Variants) (c : Dev nD) (bd : Option 𝒱.V) (i : grid0.Coords) (arg1 : Memref sig .tc .vmem S16x256x128 .f32)
  (harg1 : arg1.IsWhole) (arg2 : Memref sig .tc .vmem S16x384 .i32) (harg2 : arg2.IsWhole)
  (arg3 : Memref sig .tc .vmem S16x1 .i32) (harg3 : arg3.IsWhole) (arg4 : Memref sig .tc .vmem S16x1 .i32)
  (harg4 : arg4.IsWhole) (arg5 : Memref sig .tc .vmem S128x128 .f32) (harg5 : arg5.IsWhole)
  (arg6 : Memref sig .tc .vmem S1x1 .f32) (harg6 : arg6.IsWhole) (arg7 : Memref sig .tc .vmem S128x128 .f32)
  (harg7 : arg7.IsWhole) (arg8 : Memref sig .tc .vmem S16x128x384 .f32) (harg8 : arg8.IsWhole)
  (arg9 : Memref sig .tc .vmem S16x384 .f32) (harg9 : arg9.IsWhole)
  (arg10 : Memref sig .tc .vmem S16x256x128 .f32) (harg10 : arg10.IsWhole)
  (arg11 : Memref sig .tc .vmem S16x256x384 .f32) (harg11 : arg11.IsWhole)
  (arg12 : Memref sig .tc .vmem S16x128 .f32) (harg12 : arg12.IsWhole)
  (arg13 : Memref sig .tc .vmem S16x384 .f32) (harg13 : arg13.IsWhole)
  (arg14 : Memref sig .tc .vmem S16x384 .f32) (harg14 : arg14.IsWhole) (arg15 : Memref sig .tc .vmem S16x1 .f32)
  (harg15 : arg15.IsWhole) (X_arg7 : BufTy.Contents (Elt Ideal) arg7.view.ty)
  (X_arg9 : BufTy.Contents (Elt Ideal) arg9.view.ty) (X_arg10 : BufTy.Contents (Elt Ideal) arg10.view.ty)
  (X_arg11 : BufTy.Contents (Elt Ideal) arg11.view.ty)

/-- The first chunk's loop carries a row through its frames. -/
theorem loop1_carries (k0_h2 : k0_cond2 i = 1#1) (hC : Chunk U 0 b P S Q L)
    (h7 : arg7.view.read (Elt Ideal) X_arg7 = P) (h9 : arg9.view.read (Elt Ideal) X_arg9 = S)
    (h10 : arg10.view.read (Elt Ideal) X_arg10 = Q) (h11 : arg11.view.read (Elt Ideal) X_arg11 = L)
    (hn : 255 < U.n)
    (init : Vec Ideal S16x128 .f32 × Vec Ideal S16x384 .f32 × Vec Ideal S16x384 .f32 × Vec Ideal S16x1 .f32)
    (hi : Carried U 0 b init) :
    Carried U 255 b (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2
      X_arg7 X_arg9 X_arg10 X_arg11 init (Scf.trips 0#32 (Scalar.addi 0#32 16#32) 1#32)) := by
  have ht : (Scf.trips 0#32 (Scalar.addi 0#32 16#32) 1#32) = 16 := by decide
  rw [ht]
  refine carried_trips (N := 16) (g := 0)
    (st := st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2
      X_arg7 X_arg9 X_arg10 X_arg11 init)
    (fun k hk => ⟨_, (st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2
      X_arg7 X_arg9 X_arg10 X_arg11 init ⟨k, hk⟩).trans (trip1_eq ..), fun n => ?_⟩) hi
  have := n.isLt
  simp only [View.readAt_eq_ld, h7, h9, h10, h11]
  rw [View.ld_unit_zero (S := S128x128) (by decide), View.ld_unit_zero (S := S16x384) (by decide), Nat.zero_add]
  refine advances_stepAll (notFirst_eq k (by omega) n) (by omega) ?_
  have h := (hC.row (16 * k + n.val) (by omega) _ _ (k0_off1_eq ⟨k, hk⟩ n) (k0_off2_eq ⟨k, hk⟩ n) (k0_off1_inb i ⟨k, hk⟩ k0_h2 n) (k0_off2_inb i ⟨k, hk⟩ k0_h2 n))
  rwa [Nat.zero_add] at h

/-- The second to fourth chunks' loop carries a row through its frames. -/
theorem loop2_carries (k0_h3 : k0_cond3 i = 1#1) (hC : Chunk U g b P S Q L)
    (h7 : arg7.view.read (Elt Ideal) X_arg7 = P) (h9 : arg9.view.read (Elt Ideal) X_arg9 = S)
    (h10 : arg10.view.read (Elt Ideal) X_arg10 = Q) (h11 : arg11.view.read (Elt Ideal) X_arg11 = L)
    (h0 : 0 < g) (hn : g + 255 < U.n)
    (init : Vec Ideal S16x128 .f32 × Vec Ideal S16x384 .f32 × Vec Ideal S16x384 .f32 × Vec Ideal S16x1 .f32)
    (hi : Carried U (g - 1) b init) :
    Carried U (g + 255) b (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3
      X_arg7 X_arg9 X_arg10 X_arg11 init (Scf.trips 0#32 (Scalar.addi 0#32 16#32) 1#32)) := by
  have ht : (Scf.trips 0#32 (Scalar.addi 0#32 16#32) 1#32) = 16 := by decide
  rw [ht]
  refine carried_trips (N := 16) (g := g)
    (st := st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3
      X_arg7 X_arg9 X_arg10 X_arg11 init)
    (fun k hk => ⟨_, (st_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3
      X_arg7 X_arg9 X_arg10 X_arg11 init ⟨k, hk⟩).trans (trip2_eq ..), fun n => ?_⟩) hi
  have := n.isLt
  simp only [View.readAt_eq_ld, h7, h9, h10, h11]
  rw [View.ld_unit_zero (S := S128x128) (by decide), View.ld_unit_zero (S := S16x384) (by decide), add_assoc]
  exact advances_step (by omega) (by omega) (hC.row (16 * k + n.val) (by omega) _ _ (k0_off3_eq _ _) (k0_off4_eq _ _) _ _)

/-- The last chunks' loop carries a row through its frames. -/
theorem loop3_carries (arg0 : BitVec 32) (v218 : Vec Ideal S16x1 .i32) (k0_h4 : k0_cond4 i = 1#1) (p : ℕ) (hC : Chunk U (256 * p) b P S Q L)
    (h7 : arg7.view.read (Elt Ideal) X_arg7 = P) (h9 : arg9.view.read (Elt Ideal) X_arg9 = S)
    (h10 : arg10.view.read (Elt Ideal) X_arg10 = Q) (h11 : arg11.view.read (Elt Ideal) X_arg11 = L)
    (hp0 : 0 < p) (hp : p < 8) (ha : arg0 = BitVec.ofNat 32 p) (hN : U.n ≤ 2048)
    (hv : v218 (ix2 b 0) = BitVec.ofNat 32 U.n)
    (init : Vec Ideal S16x128 .f32 × Vec Ideal S16x384 .f32 × Vec Ideal S16x384 .f32 × Vec Ideal S16x1 .f32)
    (hi : Carried U (256 * p - 1) b init) :
    Carried U (256 * p + 255) b (st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v218 k0_h4
      X_arg7 X_arg9 X_arg10 X_arg11 init (Scf.trips 0#32 (Scalar.addi 0#32 16#32) 1#32)) := by
  have ht : (Scf.trips 0#32 (Scalar.addi 0#32 16#32) 1#32) = 16 := by decide
  rw [ht]
  refine carried_trips (N := 16) (g := 256 * p)
    (st := st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v218 k0_h4
      X_arg7 X_arg9 X_arg10 X_arg11 init)
    (fun k hk => ⟨_, (st_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v218 k0_h4
      X_arg7 X_arg9 X_arg10 X_arg11 init ⟨k, hk⟩).trans (trip3_eq ..), fun n => ?_⟩) hi
  have := n.isLt
  simp only [View.readAt_eq_ld, h7, h9, h10, h11]
  rw [View.ld_unit_zero (S := S128x128) (by decide), View.ld_unit_zero (S := S16x384) (by decide), add_assoc]
  refine advances_stepRow (by omega) ?_ fun _ => ?_
  · subst ha
    rw [← add_assoc]
    refine beforeEnd_eq p k hp (by omega) n _ U.n hN hv
  · exact hC.row (16 * k + n.val) (by omega) _ _ (k0_off5_eq _ _) (k0_off6_eq _ _) _ _

end Cert.Ctc

end
-- ==== Proof.Points.lean ====
module

public import proofs.«01_k».proof.Proof.Chunk
public import proofs.«01_k».proof.Proof.Gen.KernelIdeal.Value
public import Idealize.ShloMosaic.Lib.Pipeline.ValueKit.Tiles

/-!
# The kernel's points

What the scratch memory holds, row by row, is carried from each point of the grid to the next.
-/

@[expose] public section

set_option maxRecDepth 65536
set_option maxHeartbeats 1000000

noncomputable section

namespace Cert.Ctc

open Cert.KernelIdeal Cert.KernelIdeal.Gen Cert.KernelIdeal.Value
open Idealize.ShloMosaic Idealize.ShloMosaic.TcCoe Idealize.ShloMosaic.Tactic

/-- The result block and the scratch memory that a point hands on. -/
abbrev Kept := Vec Ideal S1x1 .f32 × Vec Ideal S128x128 .f32 × Vec Ideal S16x128x384 .f32 × Vec Ideal S16x384 .f32 ×
  Vec Ideal S16x128 .f32 × Vec Ideal S16x384 .f32 × Vec Ideal S16x384 .f32 × Vec Ideal S16x1 .f32

/-- What the scratch memory holds of one utterance after frame `t`. -/
structure Held (U : Utt) (t : ℕ) (b : Fin 16) (a : Kept) : Prop where
  P : ∀ i j : Fin 128, a.2.1 (ix2 i j) = ((Real.exp (U.w i j) : ℝ) : EReal)
  H : ∀ (k : Fin 128) (j : ℕ), j ≤ 255 → a.2.2.1 (ix3 b k (lane j)) = if k.val = U.g j then 1 else 0
  S : ∀ j, j + 1 ≤ 255 → a.2.2.2.1 (ix2 b (lane (j + 1))) = lg (skips U.g (j + 1))
  c : Carried U t b a.2.2.2.2

/-- A block of scores holds an utterance's frames from frame `g` on. -/
def Scores (U : Utt) (g : ℕ) (b : Fin 16) (x : Vec Ideal S16x256x128 .f32) : Prop :=
  ∀ (r : Fin 256) (k : Fin 128), x (ix3 b r k) = ((U.x (g + r.val) k : ℝ) : EReal)

variable {U : Utt} {g : ℕ} {b : Fin 16}

/-- The chunk's rows, from the kept scratch and the chunk's scores. -/
theorem chunk_of {P : Vec Ideal S128x128 .f32} {H : Vec Ideal S16x128x384 .f32} {S : Vec Ideal S16x384 .f32}
    {x : Vec Ideal S16x256x128 .f32} (hP : ∀ i j : Fin 128, P (ix2 i j) = ((Real.exp (U.w i j) : ℝ) : EReal))
    (hH : ∀ (k : Fin 128) (j : ℕ), j ≤ 255 → H (ix3 b k (lane j)) = if k.val = U.g j then 1 else 0)
    (hS : ∀ j, j + 1 ≤ 255 → S (ix2 b (lane (j + 1))) = lg (skips U.g (j + 1))) (hx : Scores U g b x)
    (hg : ∀ j, j ≤ 255 → U.g j < 128) : Chunk U g b P S (k0_pay429 (F := Ideal) x) (labelScores x H) := by
  refine ⟨hP, hS, fun r j => ?_, fun r j hj => ?_⟩
  · unfold k0_pay429
    pointwise
    rw [hx]
    rfl
  · change (∑ k : Fin 128, x (ix3 b r k) * H (ix3 b k (lane j))) + padOp (ix2 0 (lane j)) = _
    rw [padOp_apply j hj, add_zero, Finset.sum_eq_single ⟨U.g j, hg j hj⟩]
    · rw [hx, hH _ j hj, if_pos rfl, mul_one]
    · intro k _ hk
      rw [hH _ j hj, if_neg fun h => hk (Fin.ext h), mul_zero]
    · intro h; exact absurd (Finset.mem_univ _) h

theorem carried_of {t : ℕ} {a5 : Vec Ideal S16x128 .f32} {a6 a7 : Vec Ideal S16x384 .f32} {a8 : Vec Ideal S16x1 .f32}
    {T : Vec Ideal S16x128 .f32 × Vec Ideal S16x384 .f32 × Vec Ideal S16x384 .f32 × Vec Ideal S16x1 .f32}
    (h5 : a5 = T.1) (h6 : a6 = T.2.1) (h7 : a7 = T.2.2.1) (h8 : a8 = T.2.2.2) (h : Carried U t b T) :
    Carried U t b (a5, a6, a7, a8) := by
  subst h5 h6 h7 h8
  exact h

variable (m : (ℓ : Loc nD τ sig) → Buf (Elt Ideal) ℓ) (c : Dev nD)

theorem zeros2 : (![0, 0] : Fin 2 → ℕ) = fun _ => 0 := by decide

theorem zeros3 : (![0, 0, 0] : Fin 3 → ℕ) = fun _ => 0 := by decide

theorem row_slices : ∀ n : Fin 16, S16x256x128.Slices ![n.val, 0, 0] S1x256x128 := by decide

theorem row_inb : ∀ (n : Fin 16) (a : Fin 3), ![n.val, 0, 0] a + S1x256x384.size a ≤ S16x256x384.size a := by decide

theorem row_inb' : ∀ (n : Fin 16) (a : Fin 3), ![n.val, 0, 0] a + S1x128x384.size a ≤ S16x128x384.size a := by decide

/-- The sixteen stores that fill a chunk's label scores, the last one first. -/
def labelPieces (x : FVec Ideal S16x256x128 .f32) (h : Vec Ideal S16x128x384 .f32) :
    List (View.Piece (Elt Ideal) S16x256x384 .f32) :=
  ([15, 14, 13, 12, 11, 10, 9, 8, 7, 6, 5, 4, 3, 2, 1, 0] : List (Fin 16)).map fun n =>
    ⟨Rect.unit (s := S16x256x384) ![n.val, 0, 0] S1x256x384.size (row_inb n), labelRow n.val (row_slices n) x
      (View.ld (Val := Elt Ideal) (e' := .f32) h (Rect.unit (s := S16x128x384) ![n.val, 0, 0] S1x128x384.size (row_inb' n)))⟩

theorem stored_scores (v : View sig .tc .vmem S16x256x384 .f32) (L : List (View.Piece (Elt Ideal) S16x256x384 .f32))
    (x : FVec Ideal S16x256x128 .f32) (h : Vec Ideal S16x128x384 .f32) (hL : L = labelPieces x h)
    (hc : ∀ y, ∃ p ∈ L, y ∈ p.1.set) : v.read (Elt Ideal) (v.writes (Elt Ideal) v.junk L) = labelScores x h := by
  rw [View.read_writes_junk_eq_canon]
  refine funext fun y => View.canon_apply_of_pieces _ L ?_ y (hc y)
  subst hL
  intro p hp
  obtain ⟨n, -, rfl⟩ := List.mem_map.1 hp
  exact fun y => labelRow_piece n.val n.isLt (row_slices n) x h (row_inb n) (row_inb' n) y

theorem stored_exps (v : View sig .tc .vmem S16x256x128 .f32) (x : Vec Ideal S16x256x128 .f32) (inb) :
    v.read (Elt Ideal) (v.writes (Elt Ideal) v.junk [⟨Rect.unit ![0, 0, 0] S16x256x128.size inb, x⟩]) = x := by
  rw [View.read_writes_junk_eq_canon]
  exact View.canon_unit_zero zeros3 _ _

theorem coords_val : ∀ t : Fin cfg0.N, (grid0.coords t 0).val = t.val := by decide

/-- The second to fourth points. -/
theorem held_B (t : Fin cfg0.N) (h2 : 1 ≤ t.val ∧ t.val ≤ 3) (a : Kept) (ha : Held U (256 * t.val - 1) b a)
    (hx : Scores U (256 * t.val) b (iblk m c 0 t)) (hg : ∀ j, j ≤ 255 → U.g j < 128) (hn : 1024 ≤ U.n) :
    Held U (256 * t.val + 255) b (stAt0 m c t.val t.isLt a) := by
  rw [stAt0_B m c t a (by omega) (by omega) (by omega) (by omega) (by omega)]
  refine ⟨ha.P, ha.H, ha.S, ?_⟩
  refine carried_of (T := ?T) ?h5 ?h6 ?h7 ?h8 ?h
  case h5 =>
    unfold sout0_B_5
    rw [View.read_writes_eq_canon _ _ _ (fun _ => scover0_B_5 ..)]
    unfold kernelRun0_B
    dsimp only
    sl_unfold_run_names
    refine (View.canon_unit_zero zeros2 _ _).trans ?_
    unfold k0_pay18
    rw [shapeCast_self]
  case h6 =>
    unfold sout0_B_6
    rw [View.read_writes_eq_canon _ _ _ (fun _ => scover0_B_6 ..)]
    unfold kernelRun0_B
    dsimp only
    sl_unfold_run_names
    refine (View.canon_unit_zero zeros2 _ _).trans ?_
    unfold k0_pay19
    rw [shapeCast_self]
  case h7 =>
    unfold sout0_B_7
    rw [View.read_writes_eq_canon _ _ _ (fun _ => scover0_B_7 ..)]
    unfold kernelRun0_B
    dsimp only
    sl_unfold_run_names
    refine (View.canon_unit_zero zeros2 _ _).trans ?_
    unfold k0_pay20
    rw [shapeCast_self]
  case h8 =>
    unfold sout0_B_8
    rw [View.read_writes_eq_canon _ _ _ (fun _ => scover0_B_8 ..)]
    unfold kernelRun0_B
    dsimp only
    sl_unfold_run_names
    refine (View.canon_unit_zero zeros2 _ _).trans ?_
    unfold k0_pay21
    rw [shapeCast_self]
  case h =>
    refine loop2_carries (P := a.2.1) (S := a.2.2.2.1) (Q := k0_pay429 (F := Ideal) (iblk m c 0 t))
      (L := labelScores (iblk m c 0 t) a.2.2.1) _ _ _ _ _ _ _ _ _ _ _ _ _ _ _ _ _ _ _ _ _ _ _ _ _ _ _ _ _ _ _ _ _ _ _ _ _ _ _ (chunk_of ha.P ha.H ha.S hx hg) ?_ ?_ ?_ ?_ (by omega) (by omega) _ ?_
    · exact Memref.IsWhole.read_unread _ _
    · exact Memref.IsWhole.read_unread _ _
    · simp only [View.readAt_eq_ld, Memref.IsWhole.read_unread, read_unread_whole, View.ld_unit_zero (S := S16x256x128) zeros3]
      exact stored_exps _ _ _
    · simp only [View.readAt_eq_ld, Memref.IsWhole.read_unread, read_unread_whole, View.ld_unit_zero (S := S16x256x128) zeros3]
      refine stored_scores _ _ _ _ ?_ ?_
      · rfl
      · exact View.cover_of_tiled_head _ _ _ rfl
    · simp only [View.readAt_eq_ld, Memref.IsWhole.read_unread, read_unread_whole, View.ld_unit_zero (S := S16x128) zeros2,
        View.ld_unit_zero (S := S16x384) zeros2, View.ld_unit_zero (S := S16x1) zeros2]
      exact ha.c

/-- The fifth to seventh points. -/
theorem held_C (t : Fin cfg0.N) (h2 : 4 ≤ t.val ∧ t.val ≤ 6) (a : Kept) (ha : Held U (256 * t.val - 1) b a)
    (hx : Scores U (256 * t.val) b (iblk m c 0 t)) (hg : ∀ j, j ≤ 255 → U.g j < 128) (hN : U.n ≤ 2048)
    (hi : iblk m c 2 t (ix2 b 0) = BitVec.ofNat 32 U.n) :
    Held U (256 * t.val + 255) b (stAt0 m c t.val t.isLt a) := by
  rw [stAt0_C m c t a (by omega) (by omega) (by omega) (by omega) (by omega)]
  refine ⟨ha.P, ha.H, ha.S, ?_⟩
  refine carried_of (T := ?T) ?h5 ?h6 ?h7 ?h8 ?h
  case h5 =>
    unfold sout0_C_5
    rw [View.read_writes_eq_canon _ _ _ (fun _ => scover0_C_5 ..)]
    unfold kernelRun0_C
    dsimp only
    sl_unfold_run_names
    refine (View.canon_unit_zero zeros2 _ _).trans ?_
    unfold k0_pay26
    rw [shapeCast_self]
  case h6 =>
    unfold sout0_C_6
    rw [View.read_writes_eq_canon _ _ _ (fun _ => scover0_C_6 ..)]
    unfold kernelRun0_C
    dsimp only
    sl_unfold_run_names
    refine (View.canon_unit_zero zeros2 _ _).trans ?_
    unfold k0_pay27
    rw [shapeCast_self]
  case h7 =>
    unfold sout0_C_7
    rw [View.read_writes_eq_canon _ _ _ (fun _ => scover0_C_7 ..)]
    unfold kernelRun0_C
    dsimp only
    sl_unfold_run_names
    refine (View.canon_unit_zero zeros2 _ _).trans ?_
    unfold k0_pay28
    rw [shapeCast_self]
  case h8 =>
    unfold sout0_C_8
    rw [View.read_writes_eq_canon _ _ _ (fun _ => scover0_C_8 ..)]
    unfold kernelRun0_C
    dsimp only
    sl_unfold_run_names
    refine (View.canon_unit_zero zeros2 _ _).trans ?_
    unfold k0_pay29
    rw [shapeCast_self]
  case h =>
    refine loop3_carries (P := a.2.1) (S := a.2.2.2.1) (Q := k0_pay429 (F := Ideal) (iblk m c 0 t))
      (L := labelScores (iblk m c 0 t) a.2.2.1) _ _ _ _ _ _ _ _ _ _ _ _ _ _ _ _ _ _ _ _ _ _ _ _ _ _ _ _ _ _ _ _ _ _ _ _ _ _ _ _ _ t.val (chunk_of ha.P ha.H ha.S hx hg) ?_ ?_ ?_ ?_ (by omega) (by omega) ?_ hN ?_ _ ?_
    · exact Memref.IsWhole.read_unread _ _
    · exact Memref.IsWhole.read_unread _ _
    · simp only [View.readAt_eq_ld, Memref.IsWhole.read_unread, read_unread_whole, View.ld_unit_zero (S := S16x256x128) zeros3]
      exact stored_exps _ _ _
    · simp only [View.readAt_eq_ld, Memref.IsWhole.read_unread, read_unread_whole, View.ld_unit_zero (S := S16x256x128) zeros3]
      refine stored_scores _ _ _ _ ?_ ?_
      · rfl
      · exact View.cover_of_tiled_head _ _ _ rfl
    · exact congrArg (BitVec.ofNat 32) (coords_val t)
    · simp only [View.readAt_eq_ld, Memref.IsWhole.read_unread]
      exact (congrFun (View.ld_unit_zero (S := S16x1) zeros2 _ _) _).trans hi
    · simp only [View.readAt_eq_ld, Memref.IsWhole.read_unread, read_unread_whole, View.ld_unit_zero (S := S16x128) zeros2,
        View.ld_unit_zero (S := S16x384) zeros2, View.ld_unit_zero (S := S16x1) zeros2]
      exact ha.c

/-- The last point. -/
theorem held_D (t : Fin cfg0.N) (h2 : t.val = 7) (a : Kept) (ha : Held U (256 * t.val - 1) b a)
    (hx : Scores U (256 * t.val) b (iblk m c 0 t)) (hg : ∀ j, j ≤ 255 → U.g j < 128) (hN : U.n ≤ 2048)
    (hi : iblk m c 2 t (ix2 b 0) = BitVec.ofNat 32 U.n) :
    Held U (256 * t.val + 255) b (stAt0 m c t.val t.isLt a) := by
  rw [stAt0_D m c t a (by omega) (by omega) (by omega) (by omega) (by omega)]
  refine ⟨ha.P, ha.H, ha.S, ?_⟩
  refine carried_of (T := ?T) ?h5 ?h6 ?h7 ?h8 ?h
  case h5 =>
    unfold sout0_D_5
    rw [View.read_writes_eq_canon _ _ _ (fun _ => scover0_D_5 ..)]
    unfold kernelRun0_D
    dsimp only
    sl_unfold_run_names
    refine (View.canon_unit_zero zeros2 _ _).trans ?_
    unfold k0_pay26
    rw [shapeCast_self]
  case h6 =>
    unfold sout0_D_6
    rw [View.read_writes_eq_canon _ _ _ (fun _ => scover0_D_6 ..)]
    unfold kernelRun0_D
    dsimp only
    sl_unfold_run_names
    refine (View.canon_unit_zero zeros2 _ _).trans ?_
    unfold k0_pay27
    rw [shapeCast_self]
  case h7 =>
    unfold sout0_D_7
    rw [View.read_writes_eq_canon _ _ _ (fun _ => scover0_D_7 ..)]
    unfold kernelRun0_D
    dsimp only
    sl_unfold_run_names
    refine (View.canon_unit_zero zeros2 _ _).trans ?_
    unfold k0_pay28
    rw [shapeCast_self]
  case h8 =>
    unfold sout0_D_8
    rw [View.read_writes_eq_canon _ _ _ (fun _ => scover0_D_8 ..)]
    unfold kernelRun0_D
    dsimp only
    sl_unfold_run_names
    refine (View.canon_unit_zero zeros2 _ _).trans ?_
    unfold k0_pay29
    rw [shapeCast_self]
  case h =>
    refine loop3_carries (P := a.2.1) (S := a.2.2.2.1) (Q := k0_pay429 (F := Ideal) (iblk m c 0 t))
      (L := labelScores (iblk m c 0 t) a.2.2.1) _ _ _ _ _ _ _ _ _ _ _ _ _ _ _ _ _ _ _ _ _ _ _ _ _ _ _ _ _ _ _ _ _ _ _ _ _ _ _ _ _ t.val (chunk_of ha.P ha.H ha.S hx hg) ?_ ?_ ?_ ?_ (by omega) (by omega) ?_ hN ?_ _ ?_
    · exact Memref.IsWhole.read_unread _ _
    · exact Memref.IsWhole.read_unread _ _
    · simp only [View.readAt_eq_ld, Memref.IsWhole.read_unread, read_unread_whole, View.ld_unit_zero (S := S16x256x128) zeros3]
      exact stored_exps _ _ _
    · simp only [View.readAt_eq_ld, Memref.IsWhole.read_unread, read_unread_whole, View.ld_unit_zero (S := S16x256x128) zeros3]
      refine stored_scores _ _ _ _ ?_ ?_
      · rfl
      · exact View.cover_of_tiled_head _ _ _ rfl
    · exact congrArg (BitVec.ofNat 32) (coords_val t)
    · simp only [View.readAt_eq_ld, Memref.IsWhole.read_unread]
      exact (congrFun (View.ld_unit_zero (S := S16x1) zeros2 _ _) _).trans hi
    · simp only [View.readAt_eq_ld, Memref.IsWhole.read_unread, read_unread_whole, View.ld_unit_zero (S := S16x128) zeros2,
        View.ld_unit_zero (S := S16x384) zeros2, View.ld_unit_zero (S := S16x1) zeros2]
      exact ha.c

end Cert.Ctc

end
-- ==== Proof.Start.lean ====
module

public import proofs.«01_k».proof.Proof.Points

/-!
# The first point

What the first point writes before its loop: the tables it keeps, and the registers at frame 0.
-/

@[expose] public section

set_option maxRecDepth 65536
set_option maxHeartbeats 1000000

noncomputable section

namespace Cert.Ctc

open Cert.KernelIdeal Cert.KernelIdeal.Gen Cert.KernelIdeal.Value
open Idealize.ShloMosaic Idealize.ShloMosaic.TcCoe Idealize.ShloMosaic.Tactic

variable {U : Utt} {b : Fin 16}

/-- A row of the interleaved targets holds the utterance's labels. -/
def Labels (U : Utt) (b : Fin 16) (tg : Vec Ideal S16x384 .i32) : Prop :=
  ∀ j, j ≤ 255 → U.g j < 128 ∧ tg (ix2 b (lane j)) = BitVec.ofNat 32 (U.g j)

theorem word_eq (n k : ℕ) (hn : n < 512) (hk : k < 512) :
    IntOp.cmpi .eq (BitVec.ofNat 32 n) (BitVec.ofNat 32 k) = if n = k then 1#1 else 0#1 := by
  change BitVec.ofBool (BitVec.ofNat 32 n == BitVec.ofNat 32 k) = _
  have h : BitVec.ofNat 32 n = BitVec.ofNat 32 k ↔ n = k := by
    constructor
    · intro h
      have := congrArg BitVec.toNat h
      simp only [BitVec.toNat_ofNat] at this
      omega
    · exact congrArg _
  by_cases e : n = k
  · rw [if_pos e, e]; simp
  · rw [if_neg e, beq_eq_false_iff_ne.2 (fun h' => e (h.1 h'))]; rfl

theorem word_ne (n k : ℕ) (hn : n < 512) (hk : k < 512) :
    IntOp.cmpi .ne (BitVec.ofNat 32 n) (BitVec.ofNat 32 k) = if n = k then 0#1 else 1#1 := by
  have h := word_eq n k hn hk
  change BitVec.ofBool (BitVec.ofNat 32 n == BitVec.ofNat 32 k) = _ at h
  change BitVec.ofBool (!(BitVec.ofNat 32 n == BitVec.ofNat 32 k)) = _
  revert h
  generalize (BitVec.ofNat 32 n == BitVec.ofNat 32 k) = w
  split <;> cases w <;> decide

theorem start_P (w : Vec Ideal S128x128 .f32) (hw : ∀ i j : Fin 128, w (ix2 i j) = ((U.w i j : ℝ) : EReal)) (i j : Fin 128) :
    k0_pay31 (F := Ideal) w (ix2 i j) = ((Real.exp (U.w i j) : ℝ) : EReal) := by
  unfold k0_pay31
  pointwise
  rw [hw]
  rfl

theorem start_H (tg : Vec Ideal S16x384 .i32) (ht : Labels U b tg) (k : Fin 128) (j : ℕ) (hj : j ≤ 255) :
    k0_pay33 (F := Ideal) tg (ix3 b k (lane j)) = if k.val = U.g j then 1 else 0 := by
  obtain ⟨hg, ht⟩ := ht j hj
  unfold k0_pay33 k0_pay32
  pointwise
  rw [ht, word_eq _ _ (by omega) (by omega)]
  split <;> rename_i h
  · rw [if_pos h.symm]
    change (((BitVec.setWidth 32 1#1).toInt : ℝ) : EReal) = 1
    norm_num
  · rw [if_neg fun e => h e.symm]
    change (((BitVec.setWidth 32 0#1).toInt : ℝ) : EReal) = 0
    norm_num

theorem start_S (tg : Vec Ideal S16x384 .i32) (ht : Labels U b tg) (j : ℕ) (hj : j + 1 ≤ 255) :
    k0_pay34 (F := Ideal) tg (ix2 b (lane (j + 1))) = lg (skips U.g (j + 1)) := by
  unfold k0_pay34 k0_pay32 lane
  pointwise
  have h : j / 3 % 128 = j / 3 ∧ (j + 1) / 3 % 128 = (j + 1) / 3 := by omega
  have h3 : j % 3 = 0 ∧ (j + 1) % 3 = 1 ∧ (j + 1) / 3 = j / 3 ∨ j % 3 = 1 ∧ (j + 1) % 3 = 2 ∧ (j + 1) / 3 = j / 3 ∨
      j % 3 = 2 ∧ (j + 1) % 3 = 0 ∧ (j + 1) / 3 = j / 3 + 1 := by omega
  obtain ⟨g0, t0⟩ := ht j (by omega)
  obtain ⟨g1, t1⟩ := ht (j + 1) hj
  refine (congrArg (fun w => Scalar.select (IntOp.cmpi .ne w _) _ _) t1).trans ?_
  refine (congrArg (fun w => Scalar.select (IntOp.cmpi .ne _ w) _ _) (?_ : _ = BitVec.ofNat 32 (U.g j))).trans ?_
  · rw [← t0]
    split_ifs <;> first
      | (exfalso; omega)
      | exact congrArg (fun i => tg (ix2 b i)) (Fin.ext (by dsimp only [lane]; omega))
  · rw [word_ne _ _ (by omega) (by omega), neg_inf]
    change _ = lg (if U.g (j + 1) ≠ U.g j then (1 : ℝ) else 0)
    by_cases e : U.g (j + 1) = U.g j
    · rw [if_pos e, if_neg (not_not.2 e), lg_zero]; rfl
    · rw [if_neg e, if_pos e, lg_pos one_pos, Real.log_one]; rfl

theorem lane_first (j : ℕ) (hj : j ≤ 256) :
    IntOp.cmpi .eq (BitVec.ofNat 32 (lane j).val) 0#32 = if j = 0 then 1#1 else 0#1 := by
  have h : (lane j).val = 0 ↔ j = 0 := by
    change 128 * (j % 3) + j / 3 % 128 = 0 ↔ j = 0
    omega
  by_cases e : j = 0
  · subst e; rfl
  · rw [if_neg e, word_eq _ 0 (by omega) (by omega), if_neg fun e' => e (h.1 e')]

theorem start_e (x : Vec Ideal S16x1x128 .f32) (hx : ∀ k : Fin 128, x (ix3 b 0 k) = ((U.x 0 k : ℝ) : EReal)) (j : ℕ) (hj : j ≤ 256) :
    k0_pay430 (F := Ideal) k0_pay36 (Named.named κ "neg_inf" 0xF149F2CA#32) (k0_pay37 x) (ix2 b (lane j)) = lg ((num U 0).1 j) := by
  unfold k0_pay430 k0_pay36 k0_pay37 k0_pay35
  pointwise
  rw [lane_first j hj]
  rw [neg_inf]
  change _ = lg (if j = 0 then Real.exp (U.x 0 0) else 0)
  split
  · rw [lg_exp]
    exact hx 0
  · exact lg_zero.symm

theorem start_o (x : Vec Ideal S16x1x128 .f32) (hx : ∀ k : Fin 128, x (ix3 b 0 k) = ((U.x 0 k : ℝ) : EReal))
    (tg : Vec Ideal S16x384 .i32) (ht : Labels U b tg) (j : ℕ) (hj : j ≤ 255) :
    k0_pay431 (F := Ideal) (k0_pay32 tg) (k0_pay35 x) (iota .tc S16x384 32 [1] iota_S16x384_d1_w32) (ix2 b (lane j)) = lg ((num U 0).2 j) := by
  unfold k0_pay431 k0_pay32 k0_pay35
  pointwise
  obtain ⟨hg, h0⟩ := ht 0 (by omega)
  rw [lane_first j (by omega), neg_inf]
  change _ = lg (if j = 0 then Real.exp (U.x 0 (U.g 0)) else 0)
  split
  · rw [lg_exp]
    refine Eq.trans (b := (x (ix3 b 0 (⟨U.g 0, hg⟩ : Fin 128)) : EReal)) ?_ (hx _)
    change (∑ k : Fin 128, Scalar.select (IntOp.cmpi .eq (BitVec.ofNat 32 k.val) (tg (ix2 b 0))) (x (ix3 b 0 k)) (0 : EReal)) = _
    refine (Finset.sum_eq_single (M := EReal) (⟨U.g 0, hg⟩ : Fin 128) (fun k _ hk => ?_) fun h => absurd (Finset.mem_univ _) h).trans ?_
    · rw [show tg (ix2 b 0) = _ from h0, word_eq _ _ (by omega) (by omega), if_neg fun e => hk (Fin.ext e)]
      rfl
    · rw [show tg (ix2 b 0) = _ from h0, word_eq _ _ (by omega) (by omega), if_pos rfl]
      rfl
  · exact lg_zero.symm

theorem start_u (x : Vec Ideal S16x1x128 .f32) (j : Fin 128) : k0_pay432 (F := Ideal) x (ix2 b j) = x (ix3 b 0 j) := by
  unfold k0_pay432
  pointwise

theorem start_ls : k0_pay433 (F := Ideal) (ix2 b 0) = ((Real.log 1 : ℝ) : EReal) := by
  unfold k0_pay433
  pointwise
  rw [Real.log_one]
  rfl

theorem held_start {t : ℕ} {a0 : Vec Ideal S1x1 .f32} {a1 : Vec Ideal S128x128 .f32} {a2 : Vec Ideal S16x128x384 .f32}
    {a3 : Vec Ideal S16x384 .f32} {r : Vec Ideal S16x128 .f32 × Vec Ideal S16x384 .f32 × Vec Ideal S16x384 .f32 × Vec Ideal S16x1 .f32}
    {w : Vec Ideal S128x128 .f32} {tg : Vec Ideal S16x384 .i32} (e0 : a1 = k0_pay31 (F := Ideal) w) (e1 : a2 = k0_pay33 (F := Ideal) tg)
    (e2 : a3 = k0_pay34 (F := Ideal) tg) (ht : Labels U b tg) (hw : ∀ i j : Fin 128, w (ix2 i j) = ((U.w i j : ℝ) : EReal))
    (hc : Carried U t b r) : Held U t b (a0, a1, a2, a3, r) := by
  subst e0 e1 e2
  exact ⟨start_P w hw, start_H tg ht, start_S tg ht, hc⟩

/-- The first point. -/
theorem held_A (m : (ℓ : Loc nD τ sig) → Buf (Elt Ideal) ℓ) (c : Dev nD) (t : Fin cfg0.N) (h0 : t.val = 0) (a : Kept)
    (hx : Scores U 0 b (iblk m c 0 t)) (ht : Labels U b (iblk m c 1 t))
    (hw : ∀ i j : Fin 128, iblk m c 4 t (ix2 i j) = ((U.w i j : ℝ) : EReal)) (hn : 1024 ≤ U.n) :
    Held U 255 b (stAt0 m c t.val t.isLt a) := by
  rw [stAt0_A m c t a (by omega) (by omega) (by omega) (by omega) (by omega)]
  refine held_start (w := iblk m c 4 t) (tg := iblk m c 1 t) ?e0 ?e1 ?e2 ht hw ?hc
  case e0 =>
    unfold sout0_A_0
    rw [View.read_writes_eq_canon _ _ _ (fun _ => scover0_A_0 ..)]
    unfold kernelRun0_A
    dsimp only
    sl_unfold_run_names
    simp only [View.readAt_eq_ld, Memref.IsWhole.read_unread, View.ld_unit_zero (S := S128x128) zeros2]
    exact View.canon_unit_zero zeros2 _ _
  case e1 =>
    unfold sout0_A_1
    rw [View.read_writes_eq_canon _ _ _ (fun _ => scover0_A_1 ..)]
    unfold kernelRun0_A
    dsimp only
    sl_unfold_run_names
    simp only [View.readAt_eq_ld, Memref.IsWhole.read_unread, View.ld_unit_zero (S := S16x384) zeros2]
    exact View.canon_unit_zero zeros3 _ _
  case e2 =>
    unfold sout0_A_2
    rw [View.read_writes_eq_canon _ _ _ (fun _ => scover0_A_2 ..)]
    unfold kernelRun0_A
    dsimp only
    sl_unfold_run_names
    simp only [View.readAt_eq_ld, Memref.IsWhole.read_unread, View.ld_unit_zero (S := S16x384) zeros2]
    exact View.canon_unit_zero zeros2 _ _
  case hc =>
    refine carried_of (T := ?T) ?e5 ?e6 ?e7 ?e8 ?h
    case e5 =>
      unfold sout0_A_5
      rw [View.read_writes_eq_canon _ _ _ (fun _ => scover0_A_5 ..)]
      unfold kernelRun0_A
      dsimp only
      sl_unfold_run_names
      refine (View.canon_cons_unit_zero zeros2 _ _ _).trans ?_
      unfold k0_pay9
      rw [shapeCast_self]
    case e6 =>
      unfold sout0_A_6
      rw [View.read_writes_eq_canon _ _ _ (fun _ => scover0_A_6 ..)]
      unfold kernelRun0_A
      dsimp only
      sl_unfold_run_names
      refine (View.canon_cons_unit_zero zeros2 _ _ _).trans ?_
      unfold k0_pay10
      rw [shapeCast_self]
    case e7 =>
      unfold sout0_A_7
      rw [View.read_writes_eq_canon _ _ _ (fun _ => scover0_A_7 ..)]
      unfold kernelRun0_A
      dsimp only
      sl_unfold_run_names
      refine (View.canon_cons_unit_zero zeros2 _ _ _).trans ?_
      unfold k0_pay11
      rw [shapeCast_self]
    case e8 =>
      unfold sout0_A_8
      rw [View.read_writes_eq_canon _ _ _ (fun _ => scover0_A_8 ..)]
      unfold kernelRun0_A
      dsimp only
      sl_unfold_run_names
      refine (View.canon_cons_unit_zero zeros2 _ _ _).trans ?_
      unfold k0_pay12
      rw [shapeCast_self]
    case h =>
      refine loop1_carries (P := k0_pay31 (F := Ideal) (iblk m c 4 t)) (S := k0_pay34 (F := Ideal) (iblk m c 1 t))
        (Q := k0_pay429 (F := Ideal) (iblk m c 0 t)) (L := labelScores (iblk m c 0 t) (k0_pay33 (F := Ideal) (iblk m c 1 t)))
        _ _ _ _ _ _ _ _ _ _ _ _ _ _ _ _ _ _ _ _ _ _ _ _ _ _ _ _ _ _ _ _ _ _ _ _ _ _ _
        (chunk_of (start_P _ hw) (start_H _ ht) (start_S _ ht) hx fun j hj => (ht j hj).1) ?_ ?_ ?_ ?_ (by omega) _ ?_
      · simp only [View.readAt_eq_ld, Memref.IsWhole.read_unread, View.ld_unit_zero (S := S128x128) zeros2]
        rw [View.read_writes_junk_eq_canon]
        exact View.canon_unit_zero zeros2 _ _
      · simp only [View.readAt_eq_ld, Memref.IsWhole.read_unread, View.ld_unit_zero (S := S16x384) zeros2]
        rw [View.read_writes_junk_eq_canon]
        exact View.canon_unit_zero zeros2 _ _
      · simp only [View.readAt_eq_ld, Memref.IsWhole.read_unread, View.ld_unit_zero (S := S16x256x128) zeros3]
        exact stored_exps _ _ _
      · simp only [View.readAt_eq_ld, Memref.IsWhole.read_unread, View.ld_unit_zero (S := S16x256x128) zeros3,
          View.ld_unit_zero (S := S16x384) zeros2, View.readCov_eq_canon', View.canon_unit_zero (S := S16x128x384) zeros3]
        refine stored_scores _ _ _ _ ?_ ?_
        · rfl
        · exact View.cover_of_tiled_head _ _ _ rfl
      · simp only [View.readAt_eq_ld, Memref.IsWhole.read_unread, View.ld_unit_zero (S := S16x384) zeros2,
          View.ld_unit_zero (S := S16x256x128) zeros3, View.readCov_unit_zero (S := S16x384) _ zeros2,
          View.readCov_unit_zero (S := S16x128) _ zeros2, View.readCov_unit_zero (S := S16x1) _ zeros2]
        have hx0 : ∀ k : Fin 128, (View.ld (Val := Elt Ideal) (e' := .f32) (iblk m c 0 t) (Rect.unit (s := S16x256x128) ![0, 0, 0] S16x1x128.size inb_S16x256x128_S16x1x128_0_0_0))
            (ix3 b 0 k) = ((U.x 0 k : ℝ) : EReal) := fun k => by
          pointwise
          exact hx 0 k
        have hq := (chunk_of (start_P _ hw) (start_H _ ht) (start_S _ ht) hx fun j hj => (ht j hj).1).Q 0
        refine ⟨1, ⟨one_pos, fun j => ?_, start_e _ hx0, start_o _ hx0 _ ht⟩, start_ls (b := b)⟩
        simp only [View.readCov_eq_canon', View.canon_unit_zero (S := S16x256x128) zeros3]
        refine (start_u (b := b) _ j).trans ?_
        rw [div_one]
        refine Eq.trans (congrArg (k0_pay429 (F := Ideal) (iblk m c 0 t)) (?_ : _ = ix3 b 0 j)) (hq j)
        funext a
        apply Fin.ext
        match a with
        | ⟨0, _⟩ => exact (Nat.zero_add _).trans (Nat.one_mul _)
        | ⟨1, _⟩ => rfl
        | ⟨2, _⟩ => exact (Nat.zero_add _).trans (Nat.one_mul _)

end Cert.Ctc

end
-- ==== Proof.Finish.lean ====
module

public import proofs.«01_k».proof.Proof.Start

/-!
# The kernel's result

The last point's result block in terms of what the scratch memory holds, and its value from the rows it carried.
-/

@[expose] public section

set_option maxRecDepth 65536
set_option maxHeartbeats 1000000

noncomputable section

namespace Cert.Ctc

open Cert.KernelIdeal Cert.KernelIdeal.Gen Cert.KernelIdeal.Value
open Idealize.ShloMosaic Idealize.ShloMosaic.TcCoe Idealize.ShloMosaic.Tactic

/-- What the last point stores as the result. -/
def finishOp (u : FVec Ideal S16x128 .f32) (e o : FVec Ideal S16x384 .f32) (ls : FVec Ideal S16x1 .f32)
    (il tl : Vec Ideal S16x1 .i32) : FVec Ideal S1x1 .f32 :=
  k0_pay30 (k0_pay427 e o (k0_pay422 u ls) (k0_pay423 (F := Ideal) tl) (iota .tc S16x384 32 [1] iota_S16x384_d1_w32) k0_pay424 128#32 k0_pay425 k0_pay426 0#32)
    (k0_pay428 il) (FloatOps.ofBits .f32 0#32)

theorem finish_of {u : Vec Ideal S16x128 .f32} {e o : Vec Ideal S16x384 .f32} {ls : Vec Ideal S16x1 .f32} {r : Vec Ideal S1x1 .f32}
    {il tl : Vec Ideal S16x1 .i32}
    {T : Vec Ideal S16x128 .f32 × Vec Ideal S16x384 .f32 × Vec Ideal S16x384 .f32 × Vec Ideal S16x1 .f32}
    (h5 : u = T.1) (h6 : e = T.2.1) (h7 : o = T.2.2.1) (h8 : ls = T.2.2.2)
    (h : r = finishOp T.1 T.2.1 T.2.2.1 T.2.2.2 il tl) : r = finishOp u e o ls il tl := by
  subst h5 h6 h7 h8
  exact h

theorem out_D (m : (ℓ : Loc nD τ sig) → Buf (Elt Ideal) ℓ) (c : Dev nD) (t : Fin cfg0.N) (h : t.val = 7) (a : Kept) :
    (stAt0 m c t.val t.isLt a).1 = finishOp (stAt0 m c t.val t.isLt a).2.2.2.2.1 (stAt0 m c t.val t.isLt a).2.2.2.2.2.1
      (stAt0 m c t.val t.isLt a).2.2.2.2.2.2.1 (stAt0 m c t.val t.isLt a).2.2.2.2.2.2.2 (iblk m c 2 t) (iblk m c 3 t) := by
  rw [stAt0_D m c t a (by omega) (by omega) (by omega) (by omega) (by omega)]
  dsimp only
  refine finish_of (T := ?T) ?h5 ?h6 ?h7 ?h8 ?h
  case h5 =>
    unfold sout0_D_5
    rw [View.read_writes_eq_canon _ _ _ (fun _ => scover0_D_5 ..)]
    unfold kernelRun0_D
    dsimp only
    sl_unfold_run_names
    refine (View.canon_unit_zero zeros2 _ _).trans ?_
    unfold k0_pay26
    rw [shapeCast_self]
  case h6 =>
    unfold sout0_D_6
    rw [View.read_writes_eq_canon _ _ _ (fun _ => scover0_D_6 ..)]
    unfold kernelRun0_D
    dsimp only
    sl_unfold_run_names
    refine (View.canon_unit_zero zeros2 _ _).trans ?_
    unfold k0_pay27
    rw [shapeCast_self]
  case h7 =>
    unfold sout0_D_7
    rw [View.read_writes_eq_canon _ _ _ (fun _ => scover0_D_7 ..)]
    unfold kernelRun0_D
    dsimp only
    sl_unfold_run_names
    refine (View.canon_unit_zero zeros2 _ _).trans ?_
    unfold k0_pay28
    rw [shapeCast_self]
  case h8 =>
    unfold sout0_D_8
    rw [View.read_writes_eq_canon _ _ _ (fun _ => scover0_D_8 ..)]
    unfold kernelRun0_D
    dsimp only
    sl_unfold_run_names
    refine (View.canon_unit_zero zeros2 _ _).trans ?_
    unfold k0_pay29
    rw [shapeCast_self]
  case h =>
    dsimp only
    unfold out0_D_5
    rw [View.read_writes_eq_canon _ _ _ (fun _ => cover0_D_5 ..)]
    unfold kernelRun0_D
    dsimp only
    sl_unfold_run_names
    refine (View.canon_unit_zero zeros2 _ _).trans ?_
    simp only [View.readCov_unit_zero (S := S16x384) _ zeros2, View.readCov_unit_zero (S := S16x128) _ zeros2,
      View.readCov_unit_zero (S := S16x1) _ zeros2]
    generalize st_k0_t3 (F := Ideal) _ _ _ _ _ _ _ _ _ _ _ _ _ _ _ _ _ _ _ _ _ _ _ _ _ _ _ _ _ _ _ _ _ _ _ _ _ _ _ _ _ _ _ = z
    simp only [View.readAt_eq_ld, Memref.IsWhole.read_unread, View.ld_unit_zero (S := S16x1) zeros2]
    unfold k0_pay26 k0_pay27 k0_pay28 k0_pay29
    simp only [shapeCast_self]
    rfl

/-- The two sums an utterance's score is made of, and the score. -/
def score (U : Utt) (L : ℕ) : EReal :=
  lg ((num U 2047).1 L + (num U 2047).2 (L - 1)) - ((Real.log (∑ j : Fin 128, den U 2047 j) : ℝ) : EReal)

/-- Of a row's lanes, picking a state's lane out picks out the state. -/
theorem pick_lane (f : Fin 384 → EReal) (L : ℕ) (hL : L ≤ 256) :
    (∑ l : Fin 384, Scalar.select (IntOp.cmpi .eq (laneState (BitVec.ofNat 32 l.val)) (BitVec.ofNat 32 L)) (f l) 0) = f (lane L) := by
  refine (Finset.sum_eq_single (lane L) (fun l _ hl => ?_) fun h => absurd (Finset.mem_univ _) h).trans ?_
  · rw [laneState_eq, word_eq _ _ (by omega) (by omega), if_neg]
    · rfl
    · intro h
      apply hl
      apply Fin.ext
      change l.val = 128 * (L % 3) + L / 3 % 128
      have := l.isLt
      have h1 : L % 3 = l.val / 128 := by omega
      have h2 : L / 3 = l.val % 128 := by omega
      omega
  · rw [laneState_lane L (by omega), word_eq _ _ (by omega) (by omega), if_pos rfl]
    rfl

theorem pred_word (L : ℕ) (hL : 1 ≤ L) : IntOp.subi (BitVec.ofNat 32 L) 1#32 = BitVec.ofNat 32 (L - 1) := by
  obtain ⟨k, rfl⟩ : ∃ k, L = k + 1 := ⟨L - 1, by omega⟩
  change BitVec.ofNat 32 (k + 1) - 1#32 = _
  rw [BitVec.ofNat_add, BitVec.add_sub_cancel]
  rfl

theorem finishOp_value (Us : Fin 16 → Utt) (Ls : Fin 16 → ℕ) (u : FVec Ideal S16x128 .f32) (e o : FVec Ideal S16x384 .f32)
    (ls : FVec Ideal S16x1 .f32) (il tl : Vec Ideal S16x1 .i32) (hc : ∀ b, Carried (Us b) 2047 b (u, e, o, ls))
    (hL : ∀ b, 1 ≤ Ls b ∧ Ls b ≤ 256) (htl : ∀ b, tl (ix2 b 0) = BitVec.ofNat 32 (Ls b)) :
    finishOp u e o ls il tl (ix2 0 0) =
      Ideal.div (-∑ b : Fin 16, score (Us b) (Ls b)) (∑ b : Fin 16, (((il (ix2 b 0)).toInt : ℝ) : EReal)) := by
  unfold finishOp k0_pay30 k0_pay427 k0_pay428 k0_pay422 k0_pay423 k0_pay424 k0_pay425 k0_pay426
  pointwise [Ideal.absf_def, zero_sub]
  refine congrArg (fun x => Ideal.div (-x) _) (Finset.sum_congr rfl fun b _ => ?_)
  obtain ⟨k, hr, hk⟩ := hc b
  dsimp only at hk
  have he : ∑ l : Fin 384, Scalar.select (IntOp.cmpi .eq (laneState (BitVec.ofNat 32 l.val)) (tl (ix2 b 0))) (e (ix2 b l)) (0 : EReal) =
      lg ((num (Us b) 2047).1 (Ls b)) := by
    rw [htl b, pick_lane _ _ (hL b).2]
    exact hr.e _ (hL b).2
  have ho : ∑ l : Fin 384, Scalar.select (IntOp.cmpi .eq (laneState (BitVec.ofNat 32 l.val)) (IntOp.subi (tl (ix2 b 0)) 1#32)) (o (ix2 b l)) (0 : EReal) =
      lg ((num (Us b) 2047).2 (Ls b - 1)) := by
    have := (hL b).2
    rw [htl b, pred_word _ (hL b).1, pick_lane _ _ (by omega)]
    exact hr.o _ (by omega)
  have hu : Ideal.log (∑ j : Fin 128, u (ix2 b j)) + ls (ix2 b 0) = ((Real.log (∑ j : Fin 128, den (Us b) 2047 j) : ℝ) : EReal) := by
    have hp : 0 < ∑ j : Fin 128, den (Us b) 2047 j := Finset.sum_pos (fun j _ => den_pos _ _ _) Finset.univ_nonempty
    rw [Finset.sum_congr rfl fun j _ => hr.u j, ← coe_sum, ← Finset.sum_div, Ideal.log_coe, if_neg (not_le.2 (div_pos hp hr.pos)),
      hk, ← EReal.coe_add, Real.log_div hp.ne' hr.pos.ne', sub_add_cancel]
  refine Eq.trans (congrArg₂ (fun p q : EReal => max p q + Ideal.log1p (Ideal.exp (-max (p - q) (-(p - q)))) - _) he ho) ?_
  refine congrArg₂ (fun p q : EReal => p - q) ?_ hu
  exact lae (num_nonneg _ _ |>.1 _) (num_nonneg _ _ |>.2 _)

end Cert.Ctc

end
-- ==== Proof.Inputs.lean ====
/-
What the kernel's blocks hold at launch, in terms of the program's arguments, and the utterances those arguments describe.
-/
module
public import proofs.«01_k».proof.Proof.Picks
public import proofs.«01_k».proof.Proof.Finish
public import Idealize.ShloMosaic.Lib.StableHlo.Run

@[expose] public section

set_option maxRecDepth 65536
set_option maxHeartbeats 1000000

noncomputable section

namespace Cert.Ctc

open Cert.KernelIdeal Cert.KernelIdeal.Gen
open Idealize.ShloMosaic Idealize.ShloMosaic.TcCoe Idealize.ShloMosaic.Tactic

/-- The utterance a row of the arguments describes. -/
def uttOf (a0 : FVec Ideal S16x2048x128 .f32) (a1 : IVec S16x256 32) (a2 : IVec S16 32) (a4 : FVec Ideal S128x128 .f32)
    (b : Fin 16) : Utt where
  x r k := if h : r < 2048 ∧ k < 128 then EReal.toReal (a0 (ix3 b ⟨r, h.1⟩ ⟨k, h.2⟩)) else 0
  g j := if h : j < 256 then (a1 (ix2 b ⟨j, h⟩)).toNat else 0
  n := (a2 (ix1 b)).toNat
  w i j := if h : i < 128 ∧ j < 128 then EReal.toReal (a4 (ix2 ⟨i, h.1⟩ ⟨j, h.2⟩)) else 0

/-- What is asked of the arguments: finite scores, labels that are classes other than the blank, and lengths in range. -/
structure Fits (a0 : FVec Ideal S16x2048x128 .f32) (a1 : IVec S16x256 32) (a2 a3 : IVec S16 32)
    (a4 : FVec Ideal S128x128 .f32) : Prop where
  x : ∀ b r k, a0 (ix3 b r k) ≠ ⊤ ∧ a0 (ix3 b r k) ≠ ⊥
  g : ∀ b j, 1 ≤ (a1 (ix2 b j)).toNat ∧ (a1 (ix2 b j)).toNat < 128
  n : ∀ b, 1024 ≤ (a2 (ix1 b)).toNat ∧ (a2 (ix1 b)).toNat ≤ 2048
  l : ∀ b, 1 ≤ (a3 (ix1 b)).toNat ∧ (a3 (ix1 b)).toNat ≤ 256
  w : ∀ i j, a4 (ix2 i j) ≠ ⊤ ∧ a4 (ix2 i j) ≠ ⊥

variable {a0 : FVec Ideal S16x2048x128 .f32} {a1 : IVec S16x256 32} {a2 a3 : IVec S16 32} {a4 : FVec Ideal S128x128 .f32}

theorem word_self (v : BitVec 32) : v = BitVec.ofNat 32 v.toNat := by
  rw [BitVec.ofNat_toNat, BitVec.setWidth_eq]

theorem Fits.x_eq (h : Fits a0 a1 a2 a3 a4) (b : Fin 16) (r : Fin 2048) (k : Fin 128) :
    a0 (ix3 b r k) = (((uttOf a0 a1 a2 a4 b).x r k : ℝ) : EReal) := by
  unfold uttOf
  dsimp only
  rw [dif_pos ⟨r.isLt, k.isLt⟩, EReal.coe_toReal (h.x b r k).1 (h.x b r k).2]

theorem Fits.w_eq (h : Fits a0 a1 a2 a3 a4) (b : Fin 16) (i j : Fin 128) :
    a4 (ix2 i j) = (((uttOf a0 a1 a2 a4 b).w i j : ℝ) : EReal) := by
  unfold uttOf
  dsimp only
  rw [dif_pos ⟨i.isLt, j.isLt⟩, EReal.coe_toReal (h.w i j).1 (h.w i j).2]

theorem Fits.g_eq (h : Fits a0 a1 a2 a3 a4) (b : Fin 16) (j : Fin 256) :
    1 ≤ (uttOf a0 a1 a2 a4 b).g j ∧ (uttOf a0 a1 a2 a4 b).g j < 128 ∧
      a1 (ix2 b j) = BitVec.ofNat 32 ((uttOf a0 a1 a2 a4 b).g j) := by
  have hg : (uttOf a0 a1 a2 a4 b).g j = (a1 (ix2 b j)).toNat := by
    unfold uttOf
    dsimp only
    rw [dif_pos j.isLt]
  rw [hg]
  exact ⟨(h.g b j).1, (h.g b j).2, word_self _⟩

theorem n_eq (b : Fin 16) : a2 (ix1 b) = BitVec.ofNat 32 (uttOf a0 a1 a2 a4 b).n :=
  word_self _

variable (m : (ℓ : Loc nD τ sig) → Buf (Elt Ideal) ℓ) (c : Dev nD)

/-- The state whose label each lane carries. -/
theorem lane_index (l : Fin 384) : (V m c main_v14 : IVec S384x1 32) (ix2 l 0) = BitVec.ofNat 32 (3 * (l.val % 128) + l.val / 128) := by
  unfold V
  simp only [hostOps0, hostOps0_1, hostOps0_2, hostOps0_3, hostOps0_4, List.flatten_cons, List.flatten_nil,
    List.append_nil, List.cons_append, List.nil_append]
  after_results
  simp only [StableHlo.TRef.ofBuf_toBuf]
  revert l
  change ∀ l : Fin 384, @Eq (BitVec 32) _ _
  decide +kernel
/-- The label lanes the kernel is given: the labels over a filler, reordered. -/
theorem label_lanes :
    V m c main_v15 = Host.gather gather_S16x384_S384x1_S16x384_0_1_n_n_1_1_161
      (Host.scatter scatter_S16x384_S1_S16x256_01_n_1_0 (fun x b => b)
        (broadcastInDim S16x384 ![] bcast_S_S16x384 (constantI S_ 32 4294967295#32))
        (broadcastInDim S1 ![] bcast_S_S1 (constantI S_ 32 0#32)) (m (c.tc.loc main_arg1))) (V m c main_v14) := by
  unfold V
  simp only [hostOps0, hostOps0_1, hostOps0_2, hostOps0_3, hostOps0_4, List.flatten_cons, List.flatten_nil,
    List.append_nil, List.cons_append, List.nil_append]
  after_results

/-- The lengths, stood in a column. -/
theorem col_frames (b : Fin 16) : V m c main_v16 (ix2 b 0) = m (c.tc.loc main_arg2) (ix1 b) := by
  unfold V
  simp only [hostOps0, hostOps0_1, hostOps0_2, hostOps0_3, hostOps0_4, List.flatten_cons, List.flatten_nil,
    List.append_nil, List.cons_append, List.nil_append]
  after_results
  pointwise

theorem col_labels (b : Fin 16) : V m c main_v17 (ix2 b 0) = m (c.tc.loc main_arg3) (ix1 b) := by
  unfold V
  simp only [hostOps0, hostOps0_1, hostOps0_2, hostOps0_3, hostOps0_4, List.flatten_cons, List.flatten_nil,
    List.append_nil, List.cons_append, List.nil_append]
  after_results
  pointwise

/-- The label at a state's lane. -/
theorem label_at (b : Fin 16) (j : Fin 256) :
    V m c main_v15 (ix2 b (lane j.val)) = m (c.tc.loc main_arg1) (ix2 b j) := by
  have hj := j.isLt
  have hw : (V m c main_v14 : IVec S384x1 32) (ix2 (lane j.val) 0) = BitVec.ofNat 32 j.val := by
    rw [lane_index]
    congr 1
    simp only [lane]
    have h1 : (128 * (j.val % 3) + j.val / 3 % 128) % 128 = j.val / 3 := by omega
    have h2 : (128 * (j.val % 3) + j.val / 3 % 128) / 128 = j.val % 3 := by omega
    rw [h1, h2]
    omega
  refine Eq.trans ?_ (written (broadcastInDim S16x384 ![] bcast_S_S16x384 (constantI S_ 32 4294967295#32))
    (broadcastInDim S1 ![] bcast_S_S1 (constantI S_ 32 0#32)) rfl (m (c.tc.loc main_arg1)) b j)
  rw [label_lanes]
  refine (pick_column _ _ b (lane j.val)).trans ?_
  congr 2
  apply Fin.ext
  dsimp only
  rw [hw, BitVec.toInt_eq_toNat_of_lt (by rw [BitVec.toNat_ofNat]; omega), BitVec.toNat_ofNat]
  omega

/-- Point `t`'s block of scores is the arguments' frames from `256 t` on. -/
theorem block_scores (t : Fin cfg0.N) (b : Fin 16) (r : Fin 256) (k : Fin 128) (q : Fin 2048)
    (hq : q.val = 256 * t.val + r.val) :
    iblk m c 0 t (ix3 b r k) = m (c.tc.loc main_arg0) (ix3 b q k) := by
  have hi : win0_0.index t 0 = 0 ∧ win0_0.index t 1 = t.val ∧ win0_0.index t 2 = 0 := by
    rcases fin_N0 t with rfl | rfl | rfl | rfl | rfl | rfl | rfl | rfl <;> decide
  unfold iblk
  rw [View.read_apply]
  show V m c main_arg0 _ = _
  rw [V_main_arg0]
  congr 1
  funext a
  apply Fin.ext
  match a with
  | ⟨0, _⟩ => show win0_0.index t 0 * 16 + 1 * b.val = b.val; rw [hi.1]; omega
  | ⟨1, _⟩ => show win0_0.index t 1 * 256 + 1 * r.val = q.val; rw [hi.2.1]; omega
  | ⟨2, _⟩ => show win0_0.index t 2 * 128 + 1 * k.val = k.val; rw [hi.2.2]; omega

theorem block_labels (t : Fin cfg0.N) (b : Fin 16) (l : Fin 384) : iblk m c 1 t (ix2 b l) = V m c main_v15 (ix2 b l) := by
  have hi : win0_1.index t 0 = 0 ∧ win0_1.index t 1 = 0 := by
    rcases fin_N0 t with rfl | rfl | rfl | rfl | rfl | rfl | rfl | rfl <;> decide
  unfold iblk
  rw [View.read_apply]
  show V m c main_v15 _ = _
  congr 1
  funext a
  apply Fin.ext
  match a with
  | ⟨0, _⟩ => show win0_1.index t 0 * 16 + 1 * b.val = b.val; rw [hi.1]; omega
  | ⟨1, _⟩ => show win0_1.index t 1 * 384 + 1 * l.val = l.val; rw [hi.2]; omega

theorem block_frames (t : Fin cfg0.N) (b : Fin 16) : iblk m c 2 t (ix2 b 0) = m (c.tc.loc main_arg2) (ix1 b) := by
  have hi : win0_2.index t 0 = 0 ∧ win0_2.index t 1 = 0 := by
    rcases fin_N0 t with rfl | rfl | rfl | rfl | rfl | rfl | rfl | rfl <;> decide
  refine Eq.trans ?_ (col_frames m c b)
  unfold iblk
  rw [View.read_apply]
  show V m c main_v16 _ = _
  congr 1
  funext a
  apply Fin.ext
  match a with
  | ⟨0, _⟩ => show win0_2.index t 0 * 16 + 1 * b.val = b.val; rw [hi.1]; omega
  | ⟨1, _⟩ => show win0_2.index t 1 * 1 + 1 * 0 = 0; rw [hi.2]

theorem block_lengths (t : Fin cfg0.N) (b : Fin 16) : iblk m c 3 t (ix2 b 0) = m (c.tc.loc main_arg3) (ix1 b) := by
  have hi : win0_3.index t 0 = 0 ∧ win0_3.index t 1 = 0 := by
    rcases fin_N0 t with rfl | rfl | rfl | rfl | rfl | rfl | rfl | rfl <;> decide
  refine Eq.trans ?_ (col_labels m c b)
  unfold iblk
  rw [View.read_apply]
  show V m c main_v17 _ = _
  congr 1
  funext a
  apply Fin.ext
  match a with
  | ⟨0, _⟩ => show win0_3.index t 0 * 16 + 1 * b.val = b.val; rw [hi.1]; omega
  | ⟨1, _⟩ => show win0_3.index t 1 * 1 + 1 * 0 = 0; rw [hi.2]

theorem block_bigram (t : Fin cfg0.N) (i j : Fin 128) : iblk m c 4 t (ix2 i j) = m (c.tc.loc main_arg4) (ix2 i j) := by
  have hi : win0_4.index t 0 = 0 ∧ win0_4.index t 1 = 0 := by
    rcases fin_N0 t with rfl | rfl | rfl | rfl | rfl | rfl | rfl | rfl <;> decide
  unfold iblk
  rw [View.read_apply]
  show V m c main_arg4 _ = _
  rw [V_main_arg4]
  congr 1
  funext a
  apply Fin.ext
  match a with
  | ⟨0, _⟩ => show win0_4.index t 0 * 128 + 1 * i.val = i.val; rw [hi.1]; omega
  | ⟨1, _⟩ => show win0_4.index t 1 * 128 + 1 * j.val = j.val; rw [hi.2]; omega

end Cert.Ctc

end
-- ==== Proof.Fold.lean ====
/-
The kernel's grid from its first point to its last, and the scalar it leaves, in terms of the arguments.
-/
module
public import proofs.«01_k».proof.Proof.Inputs

@[expose] public section

set_option maxRecDepth 65536
set_option maxHeartbeats 1000000

noncomputable section

namespace Cert.Ctc

open Cert.KernelIdeal Cert.KernelIdeal.Gen Cert.KernelIdeal.Value
open Idealize.ShloMosaic Idealize.ShloMosaic.TcCoe Idealize.ShloMosaic.Tactic

variable (m : (ℓ : Loc nD τ sig) → Buf (Elt Ideal) ℓ) (c : Dev nD)

/-- The utterances of a launch. -/
def rowsOf (b : Fin 16) : Utt :=
  uttOf (m (c.tc.loc main_arg0)) (m (c.tc.loc main_arg1)) (m (c.tc.loc main_arg2)) (m (c.tc.loc main_arg4)) b

/-- The number of labels of each utterance of a launch. -/
def labelsOf (b : Fin 16) : ℕ := ((m (c.tc.loc main_arg3) : IVec S16 32) (ix1 b)).toNat

variable (h : Fits (m (c.tc.loc main_arg0)) (m (c.tc.loc main_arg1)) (m (c.tc.loc main_arg2)) (m (c.tc.loc main_arg3))
  (m (c.tc.loc main_arg4)))

include h

theorem scores_at (t : Fin cfg0.N) (b : Fin 16) : Scores (rowsOf m c b) (256 * t.val) b (iblk m c 0 t) := by
  intro r k
  have ht : t.val < 8 := lt_of_lt_of_eq t.isLt N_0
  have hr := r.isLt
  rw [block_scores m c t b r k ⟨256 * t.val + r.val, by omega⟩ rfl]
  exact h.x_eq b _ k

theorem labels_at (t : Fin cfg0.N) (b : Fin 16) : Labels (rowsOf m c b) b (iblk m c 1 t) := by
  intro j hj
  have hg := h.g_eq b ⟨j, by omega⟩
  refine ⟨hg.2.1, ?_⟩
  rw [block_labels]
  exact (label_at m c b ⟨j, by omega⟩).trans hg.2.2

/-- What the scratch holds after every point. -/
theorem held_points (b : Fin 16) : ∀ n (hn : n < cfg0.N),
    Held (rowsOf m c b) (256 * n + 255) b (Pipeline.accAt (fun n h => stAt0 m c n h junk0) (stAt0 m c) 0 n (by omega)) := by
  have hg : ∀ j, j ≤ 255 → (rowsOf m c b).g j < 128 := fun j hj => (h.g_eq b ⟨j, by omega⟩).2.1
  have hn1 : 1024 ≤ (rowsOf m c b).n := (h.n b).1
  have hn2 : (rowsOf m c b).n ≤ 2048 := (h.n b).2
  intro n
  induction n with
  | zero =>
    intro hn
    rw [Pipeline.accAt_zero]
    exact held_A m c ⟨0, hn⟩ rfl junk0 (scores_at m c h ⟨0, hn⟩ b) (labels_at m c h ⟨0, hn⟩ b)
      (fun i j => (block_bigram m c _ i j).trans (h.w_eq b i j)) hn1
  | succ n ih =>
    intro hn
    have h8 : n + 1 < 8 := lt_of_lt_of_eq hn N_0
    have ha := ih (by omega)
    have hi : iblk m c 2 ⟨n + 1, hn⟩ (ix2 b 0) = BitVec.ofNat 32 (rowsOf m c b).n :=
      (block_frames m c _ b).trans (n_eq b)
    have key : ∀ a, Held (rowsOf m c b) (256 * (n + 1) - 1) b a →
        Held (rowsOf m c b) (256 * (n + 1) + 255) b (stAt0 m c (n + 1) hn a) := by
      intro a ha
      have hs := scores_at m c h ⟨n + 1, hn⟩ b
      by_cases h3 : n + 1 ≤ 3
      · exact held_B m c ⟨n + 1, hn⟩ ⟨by dsimp only; omega, h3⟩ a ha hs hg hn1
      by_cases h6 : n + 1 ≤ 6
      · exact held_C m c ⟨n + 1, hn⟩ ⟨by dsimp only; omega, h6⟩ a ha hs hg hn2 hi
      · exact held_D m c ⟨n + 1, hn⟩ (by dsimp only; omega) a ha hs hg hn2 hi
    rw [Pipeline.accAt_succ]
    simp only [Nat.zero_add]
    exact key _ ha

/-- The scalar the last point makes of the scratch. -/
theorem last_value (t : Fin cfg0.N) (ht : t.val = 7) (a : Kept)
    (hh : ∀ b, Held (rowsOf m c b) 2047 b (stAt0 m c t.val t.isLt a)) :
    (stAt0 m c t.val t.isLt a).1 (ix2 0 0) =
      Ideal.div (-∑ b : Fin 16, score (rowsOf m c b) (labelsOf m c b))
        (∑ b : Fin 16, (((((m (c.tc.loc main_arg2) : IVec S16 32) (ix1 b)).toInt : ℝ)) : EReal)) := by
  have ho := out_D m c t ht a
  generalize stAt0 m c t.val t.isLt a = z at ho hh
  have htl : ∀ b, (iblk m c 3 t : IVec S16x1 32) (ix2 b 0) = BitVec.ofNat 32 (labelsOf m c b) := fun b =>
    (block_lengths m c t b).trans (word_self _)
  have hil : ∀ b, (iblk m c 2 t : IVec S16x1 32) (ix2 b 0) = (m (c.tc.loc main_arg2) : IVec S16 32) (ix1 b) :=
    fun b => block_frames m c t b
  have hc : ∀ b, Carried (rowsOf m c b) 2047 b (z.2.2.2.2.1, z.2.2.2.2.2.1, z.2.2.2.2.2.2.1, z.2.2.2.2.2.2.2) :=
    fun b => (hh b).c
  have hl : ∀ b, 1 ≤ labelsOf m c b ∧ labelsOf m c b ≤ 256 := fun b => h.l b
  rw [ho]
  generalize (iblk m c 2 t : IVec S16x1 32) = il at hil ⊢
  generalize (iblk m c 3 t : IVec S16x1 32) = tl at htl ⊢
  clear ho
  have key := finishOp_value (rowsOf m c) (labelsOf m c) _ _ _ _ il tl hc hl htl
  simp only [hil] at key
  exact key

/-- The scalar the kernel leaves. -/
theorem kernel_value : (G5 m c : FVec Ideal S1x1 .f32) (ix2 0 0) =
    Ideal.div (-∑ b : Fin 16, score (rowsOf m c b) (labelsOf m c b))
      (∑ b : Fin 16, (((((m (c.tc.loc main_arg2) : IVec S16 32) (ix1 b)).toInt : ℝ)) : EReal)) := by
  have h7 : 6 + 1 < cfg0.N := lt_of_lt_of_eq (by decide) N_0.symm
  have hh := fun b => held_points m c h b (6 + 1) h7
  rw [G5_last]
  have e : ∀ hp, Pipeline.accAt (fun n h => stAt0 m c n h junk0) (stAt0 m c) 0 (6 + 1) hp =
      stAt0 m c (⟨6 + 1, h7⟩ : Fin cfg0.N).val (⟨6 + 1, h7⟩ : Fin cfg0.N).isLt
        (Pipeline.accAt (fun n h => stAt0 m c n h junk0) (stAt0 m c) 0 6 (by omega)) := by
    intro hp
    rw [Pipeline.accAt_succ]
  simp only [e] at hh
  refine Eq.trans ?_ (last_value m c h ⟨6 + 1, h7⟩ rfl _ hh)
  exact congrArg (fun a : Kept => a.1 (ix2 0 0)) (e _)

end Cert.Ctc

end
-- ==== Proof.Reference.lean ====
/-
The reference program's two recursions follow the model: what its loop carries after each frame, and its result.
-/
module
public import proofs.«01_k».proof.Proof.Picks
public import proofs.«01_k».proof.Proof.Finish

@[expose] public section

set_option maxRecDepth 65536
set_option maxHeartbeats 1000000

noncomputable section

namespace Cert.Ctc

open Cert.ReferenceIdeal Cert.ReferenceIdeal.Step
open Idealize.ShloMosaic Idealize.ShloMosaic.TcCoe Idealize.ShloMosaic.Tactic

/-- The word the reference writes for minus infinity. -/
theorem low_word : Ideal.ofBits FTy.f32 4286578688#32 = ⊥ := by
  simp [Ideal.ofBits, Ideal.ieee]

/-- A log-sum-exp about the largest term is the logarithm of the sum of exponentials. -/
theorem lse_all {p : Fin 128 → ℝ} (hp : ∀ i, 0 < p i) :
    Ideal.log (∑ i, Ideal.exp (((Real.log (p i) : ℝ) : EReal) -
        Finset.fold max (⊥ : EReal) (fun i => ((Real.log (p i) : ℝ) : EReal)) Finset.univ))
      + Finset.fold max (⊥ : EReal) (fun i => ((Real.log (p i) : ℝ) : EReal)) Finset.univ
      = ((Real.log (∑ i, p i) : ℝ) : EReal) := by
  obtain ⟨M, hM⟩ : ∃ M : ℝ, Finset.fold max (⊥ : EReal) (fun i => ((Real.log (p i) : ℝ) : EReal)) Finset.univ = M := by
    obtain ⟨i, _, hi⟩ := Finset.exists_mem_eq_sup (Finset.univ : Finset (Fin 128)) Finset.univ_nonempty
      (fun i => ((Real.log (p i) : ℝ) : EReal))
    exact ⟨Real.log (p i), hi⟩
  rw [hM]
  have hs : (∑ i, Ideal.exp (((Real.log (p i) : ℝ) : EReal) - (M : EReal)))
      = (((∑ i, p i) / Real.exp M : ℝ) : EReal) := by
    rw [Finset.sum_div, coe_sum]
    refine Finset.sum_congr rfl fun i _ => ?_
    rw [← EReal.coe_sub, Ideal.exp_coe, Real.exp_sub, Real.exp_log (hp i)]
  have hpos : 0 < ∑ i, p i := Finset.sum_pos (fun i _ => hp i) Finset.univ_nonempty
  rw [hs, Ideal.log_coe, if_neg (not_le.2 (div_pos hpos (Real.exp_pos M))),
    Real.log_div hpos.ne' (Real.exp_pos M).ne', Real.log_exp, ← EReal.coe_add, sub_add_cancel]

/-- A word of a small number, read signed. -/
theorem small_toInt (n : ℕ) (hn : n < 2 ^ 31) : (BitVec.ofNat 32 n).toInt = n := by
  rw [BitVec.toInt_eq_toNat_of_lt (by rw [BitVec.toNat_ofNat]; omega), BitVec.toNat_ofNat, Nat.mod_eq_of_lt (by omega)]

/-- An index that is not negative is taken as it is. -/
theorem keep_word (n : ℕ) (hn : n < 2 ^ 31) (y : BitVec 32) :
    Scalar.select (IntOp.cmpi .slt (BitVec.ofNat 32 n) 0#32) y (BitVec.ofNat 32 n) = BitVec.ofNat 32 n := by
  rw [show (0#32 : BitVec 32) = BitVec.ofNat 32 0 from rfl, word_slt _ _ hn (by omega), if_neg (by omega)]
  rfl

/-- What the reference's loop carries for a row after frame `t`. -/
structure RefRow (U : Utt) (t : ℕ) (b : Fin 16) (s : State Ideal) : Prop where
  c : s.main_v17_8 ix0 = BitVec.ofNat 32 (t + 1)
  e : ∀ j (hj : j ≤ 256), s.main_v17_9 (ix2 b ⟨2 * j, by omega⟩) = lg ((num U t).1 j)
  o : ∀ j (hj : j ≤ 255), s.main_v17_9 (ix2 b ⟨2 * j + 1, by omega⟩) = lg ((num U t).2 j)
  d : ∀ k : Fin 128, s.main_v17_10 (ix2 b k) = ((Real.log (den U t k) : ℝ) : EReal)
  x : ∀ (r : Fin 2048) (k : Fin 128), s.main_v17_0 (ix3 b r k) = ((U.x r k : ℝ) : EReal)
  n : s.main_v17_1 (ix1 b) = BitVec.ofNat 32 U.n
  skE : ∀ j (hj : j ≤ 256), s.main_v17_4 (ix2 b ⟨2 * j, by omega⟩) = 0#1
  skO : ∀ j (hj : j + 1 ≤ 255), s.main_v17_4 (ix2 b ⟨2 * (j + 1) + 1, by omega⟩) = if U.g (j + 1) ≠ U.g j then 1#1 else 0#1
  lE : ∀ j (hj : j ≤ 256), s.main_v17_5 (ix2 b ⟨2 * j, by omega⟩) = 0#32
  lO : ∀ j (hj : j ≤ 255), U.g j < 128 ∧ s.main_v17_5 (ix2 b ⟨2 * j + 1, by omega⟩) = BitVec.ofNat 32 (U.g j)
  w : ∀ i j : Fin 128, s.main_v17_6 (ix2 i j) = ((U.w i j : ℝ) : EReal)

variable {U : Utt} {t : ℕ} {b : Fin 16} {s : State Ideal}

/-- The sum of two log-domain values as the reference forms it. -/
theorem lae_ref {p q : ℝ} (hp : 0 ≤ p) (hq : 0 ≤ q) :
    (if lg p - lg q ≠ lg p - lg q then lg p + lg q
      else max (lg p) (lg q) + Ideal.log1p (Ideal.exp (-FloatOps.absf (F := Ideal) (φ := .f32) (lg p - lg q))))
      = lg (p + q) := by
  rw [if_neg (fun h => h rfl)]
  exact lae hp hq

/-- The state one back. -/
theorem back_one (k : Fin 513) :
    b17 t s (ix2 b k) = if h : k.val < 1 then ⊥ else s.main_v17_9 (ix2 b ⟨k.val - 1, by omega⟩) := by
  unfold b17 b16 K_main_v8 K_main_cst
  pointwise [low_word]

/-- The state two back, where it may be skipped from. -/
theorem back_two (k : Fin 513) :
    b23 t s (ix2 b k) = Scalar.select (s.main_v17_4 (ix2 b k))
      (if h : k.val < 2 then (⊥ : EReal) else s.main_v17_9 (ix2 b ⟨k.val - 2, by omega⟩)) (⊥ : EReal) := by
  unfold b23 b22 b21 b20 b19 b18 K_main_v9 K_main_cst_2
  pointwise [low_word]

/-- The three ways into a state, summed. -/
theorem joined (k : Fin 513) {p q r : ℝ} (hp : 0 ≤ p) (hq : 0 ≤ q) (hr : 0 ≤ r)
    (h0 : s.main_v17_9 (ix2 b k) = lg p) (h1 : b17 t s (ix2 b k) = lg q) (h2 : b23 t s (ix2 b k) = lg r) :
    b43 t s (ix2 b k) = lg (p + q + r) := by
  have h33 : b33 t s (ix2 b k) = lg (p + q) := by
    refine Eq.trans ?_ (lae_ref hp hq)
    rw [← h0, ← h1]
    unfold b33 b26 b27 b32 b31 b30 b29 b28 b25 b24
    pointwise
  refine Eq.trans ?_ (lae_ref (add_nonneg hp hq) hr)
  rw [← h33, ← h2]
  unfold b43 b36 b37 b42 b34 b41 b40 b39 b38 b35
  pointwise

/-- The frame's scores. -/
theorem frame_read (h : RefRow U t b s) (ht : t + 1 < 2048) (k : Fin 128) :
    b11 t s (ix2 b k) = ((U.x (t + 1) k : ℝ) : EReal) := by
  have h7 : (b7 t s ix0).toInt = ((t + 1 : ℕ) : ℤ) := by
    unfold b7 b3 b2
    change (Scalar.select (IntOp.cmpi .slt (s.main_v17_8 ix0) 0#32) (b6 t s ix0) (s.main_v17_8 ix0)).toInt = _
    rw [h.c, keep_word _ (by omega), small_toInt _ (by omega)]
  refine Eq.trans ?_ (h.x ⟨t + 1, ht⟩ k)
  unfold b11 b10 b9 b8
  pointwise
  congr 1
  funext a
  apply Fin.ext
  match a with
  | ⟨0, _⟩ => simp [Host.clampedStart]
  | ⟨1, _⟩ =>
    have e1 : BitVec.toInt (b7 t s (Shape.Idx.first Gen.h_S_)) = ((t + 1 : ℕ) : ℤ) :=
      (congrArg (fun i => BitVec.toInt (b7 t s i)) (funext fun a => a.elim0)).trans h7
    generalize b7 t s = v at e1
    simp [Host.clampedStart]
    omega
  | ⟨2, _⟩ => simp [Host.clampedStart]

/-- The score of a state's label in the frame. -/
theorem emitted (h : RefRow U t b s) (ht : t + 1 < 2048) (k : Fin 513) (g : ℕ) (hg : g < 128)
    (hl : s.main_v17_5 (ix2 b k) = BitVec.ofNat 32 g) : b52 t s (ix2 b k) = ((U.x (t + 1) g : ℝ) : EReal) := by
  refine Eq.trans ?_ (frame_read h ht ⟨g, hg⟩)
  unfold b52
  rw [pick_frame]
  congr 2
  apply Fin.ext
  unfold b51 b50 b49 b48 b47 b46 b45 b44
  pointwise
  rw [hl, keep_word _ (by omega), small_toInt _ (by omega)]
  omega

/-- Whether a row is still running at the next frame. -/
theorem alive (h : RefRow U t b s) (ht : t + 1 < 2048) (hn : U.n ≤ 2048) :
    IntOp.cmpi CmpIPredicate.slt (id s.main_v17_8 ix0) (s.main_v17_1 (ix1 b)) = if t + 1 < U.n then 1#1 else 0#1 := by
  rw [id, h.c, h.n, word_slt _ _ (by omega) (by omega)]

theorem state_next (k : Fin 513) : b72 t s (ix2 b k) =
    Scalar.select (IntOp.cmpi CmpIPredicate.slt (id s.main_v17_8 ix0) (s.main_v17_1 (ix1 b)))
      (b43 t s (ix2 b k) + b52 t s (ix2 b k)) (s.main_v17_9 (ix2 b k)) := by
  unfold b72 b71 b15 b14 b13 b12 b53
  pointwise

theorem bigram_next (k : Fin 128) : b75 t s (ix2 b k) =
    Scalar.select (IntOp.cmpi CmpIPredicate.slt (id s.main_v17_8 ix0) (s.main_v17_1 (ix1 b)))
      (Ideal.log (∑ i : Fin 128, Ideal.exp (s.main_v17_10 (ix2 b i) + s.main_v17_6 (ix2 i k) -
          Finset.fold max (⊥ : EReal) (fun i : Fin 128 => s.main_v17_10 (ix2 b i) + s.main_v17_6 (ix2 i k)) Finset.univ))
        + Finset.fold max (⊥ : EReal) (fun i : Fin 128 => s.main_v17_10 (ix2 b i) + s.main_v17_6 (ix2 i k)) Finset.univ
        + b11 t s (ix2 b k)) (s.main_v17_10 (ix2 b k)) := by
  unfold b75 b74 b15 b14 b13 b12 b73 b70 b69 b68 b67 b66 b65 b64 b63 b62 b61 b60 b59 b58 b57 b56 b55 b54
  pointwise [low_word]

/-- One trip takes a row on by one frame. -/
theorem RefRow.next (h : RefRow U t b s) (ht : t + 1 < 2048) (hn : U.n ≤ 2048) : RefRow U (t + 1) b (step t s) := by
  have ha := alive h ht hn
  have he := (num_nonneg U t).1
  have ho := (num_nonneg U t).2
  refine ⟨?_, fun j hj => ?_, fun j hj => ?_, fun k => ?_, h.x, h.n, h.skE, h.skO, h.lE, h.lO, h.w⟩
  · rw [step_main_v17_8]
    unfold b1 b0
    change s.main_v17_8 ix0 + 1#32 = _
    rw [h.c, BitVec.ofNat_add (t + 1) 1]
  · rw [step_main_v17_9, state_next, ha]
    split
    next hl =>
      change b43 t s _ + b52 t s _ = _
      have h1 : b17 t s (ix2 b ⟨2 * j, by omega⟩) = lg (up (num U t).2 j) := by
        rw [back_one]
        cases j with
        | zero => exact (dif_pos (by dsimp only; omega)).trans lg_zero.symm
        | succ j => exact (dif_neg (by dsimp only; omega)).trans (h.o j (by omega))
      have h2 : b23 t s (ix2 b ⟨2 * j, by omega⟩) = lg 0 := by
        rw [back_two, h.skE j hj, lg_zero]; rfl
      rw [joined _ (he j) (up_nonneg ho j) le_rfl (h.e j hj) h1 h2, emitted h ht _ 0 (by omega) (h.lE j hj),
        lg_add_coe (add_nonneg (add_nonneg (he j) (up_nonneg ho j)) le_rfl), num, if_pos hl]
      simp only [evenStep, add_zero]
    next hl =>
      rw [num, if_neg hl]
      exact h.e j hj
  · rw [step_main_v17_9, state_next, ha]
    split
    next hl =>
      change b43 t s _ + b52 t s _ = _
      have h1 : b17 t s (ix2 b ⟨2 * j + 1, by omega⟩) = lg ((num U t).1 j) := by
        rw [back_one]
        exact (dif_neg (by dsimp only; omega)).trans (h.e j (by omega))
      have h2 : b23 t s (ix2 b ⟨2 * j + 1, by omega⟩) = lg (skips U.g j * up (num U t).2 j) := by
        rw [back_two]
        cases j with
        | zero =>
          rw [dif_pos (by dsimp only; omega)]
          simp only [skips, zero_mul, lg_zero]
          unfold Scalar.select
          split <;> rfl
        | succ j =>
          rw [h.skO j hj, dif_neg (by dsimp only; omega)]
          simp only [skips, up]
          split
          · rw [one_mul]; exact h.o j (by omega)
          · rw [zero_mul, lg_zero]; rfl
      have hm := mul_nonneg (skips_nonneg U.g j) (up_nonneg ho j)
      rw [joined _ (ho j) (he j) hm (h.o j hj) h1 h2, emitted h ht _ _ (h.lO j hj).1 (h.lO j hj).2,
        lg_add_coe (add_nonneg (add_nonneg (ho j) (he j)) hm), num, if_pos hl]
      rfl
    next hl =>
      rw [num, if_neg hl]
      exact h.o j hj
  · rw [step_main_v17_10, bigram_next, ha]
    split
    next hl =>
      have hp : ∀ i : Fin 128, 0 < den U t i * Real.exp (U.w i k) := fun i => mul_pos (den_pos U t i) (Real.exp_pos _)
      have hr : ∀ i : Fin 128, s.main_v17_10 (ix2 b i) + s.main_v17_6 (ix2 i k)
          = ((Real.log (den U t i * Real.exp (U.w i k)) : ℝ) : EReal) := by
        intro i
        rw [h.d, h.w, ← EReal.coe_add, Real.log_mul (den_pos U t i).ne' (Real.exp_pos _).ne', Real.log_exp]
      simp only [hr]
      change Ideal.log _ + _ + _ = _
      rw [lse_all hp, frame_read h ht, ← EReal.coe_add, den, if_pos hl, denStep,
        Real.log_mul (Finset.sum_pos (fun i _ => hp i) Finset.univ_nonempty).ne' (Real.exp_pos _).ne', Real.log_exp]
    next hl =>
      rw [den, if_neg hl]
      exact h.d k

/-- What the loop starts from is the model at the first frame. -/
theorem refRow_init (a0 : (⟨S16x2048x128, .f32⟩ : BufTy).Contents (Elt Ideal)) (a1 : (⟨S16x256, .i32⟩ : BufTy).Contents (Elt Ideal))
    (a2 : (⟨S16, .i32⟩ : BufTy).Contents (Elt Ideal)) (a4 : (⟨S128x128, .f32⟩ : BufTy).Contents (Elt Ideal))
    (hx : ∀ (r : Fin 2048) (k : Fin 128), a0 (ix3 b r k) = ((U.x r k : ℝ) : EReal))
    (hg : ∀ j : Fin 256, 1 ≤ U.g j ∧ U.g j < 128 ∧ a1 (ix2 b j) = BitVec.ofNat 32 (U.g j))
    (hn : a2 (ix1 b) = BitVec.ofNat 32 U.n)
    (hw : ∀ i j : Fin 128, a4 (ix2 i j) = ((U.w i j : ℝ) : EReal)) :
    RefRow U 0 b (init (F := Ideal) a0 a2 a4 a1) := by
  have hE : ∀ j (hj : j ≤ 256), A_main_v0 (F := Ideal) a0 a1 (ix2 b ⟨2 * j, by omega⟩) = 0#32 := by
    intro j hj
    unfold A_main_v0 K_main_c
    pointwise
    rw [dif_neg (by omega)]
  have hO : ∀ j (hj : j ≤ 255), A_main_v0 (F := Ideal) a0 a1 (ix2 b ⟨2 * j + 1, by omega⟩) = BitVec.ofNat 32 (U.g j) := by
    intro j hj
    refine Eq.trans ?_ (hg ⟨j, by omega⟩).2.2
    unfold A_main_v0 K_main_c
    pointwise
    rw [dif_pos (by omega)]
    congr 2
    apply Fin.ext
    dsimp only
    omega
  have h7 : ∀ k : Fin 513, A_main_v7 (F := Ideal) a0 a1 (ix2 b k) =
      IntOp.andi (IntOp.cmpi .ne (A_main_v0 (F := Ideal) a0 a1 (ix2 b k)) 0#32) (IntOp.cmpi .ne (A_main_v0 (F := Ideal) a0 a1 (ix2 b k))
        (if h : k.val < 2 then 4294967295#32 else A_main_v0 (F := Ideal) a0 a1 (ix2 b ⟨k.val - 2, by omega⟩))) := by
    intro k
    unfold A_main_v7 A_main_v5 A_main_v6 A_main_v3 A_main_v2 K_main_v1 K_main_v4 K_main_c_0 K_main_c_1
    pointwise
  have h11 : ∀ k : Fin 128, A_main_v11 (F := Ideal) a0 a1 (ix2 b k) = ((U.x 0 k : ℝ) : EReal) := by
    intro k
    refine Eq.trans ?_ (hx 0 k)
    unfold A_main_v11 A_main_v10
    pointwise
  have h5 : ∀ (k : Fin 513) (g : ℕ), g < 128 → A_main_v0 (F := Ideal) a0 a1 (ix2 b k) = BitVec.ofNat 32 g →
      A_main_call0_v5 (F := Ideal) a0 a1 (ix3 b k 0) = BitVec.ofNat 32 g := by
    intro k g hk hl
    unfold A_main_call0_v5 A_main_call0_v4 A_main_call0_v3 A_main_call0_v1 K_main_call0_v0 K_main_call0_v2 K_main_call0_c K_main_call0_c_0
    pointwise
    rw [hl, keep_word _ (by omega)]
  have h16 : ∀ (k : Fin 513) (g : ℕ), g < 128 → A_main_v0 (F := Ideal) a0 a1 (ix2 b k) = BitVec.ofNat 32 g →
      A_main_v16 (F := Ideal) a0 a1 (ix2 b k) = if k.val < 2 then ((U.x 0 g : ℝ) : EReal) else ⊥ := by
    intro k g hk hl
    have hk' := k.isLt
    unfold A_main_v16 A_main_v15 K_main_call1_v1 K_main_call1_v0 K_main_cst_4 K_main_v14 K_main_v13 K_main_v12 K_main_c_3
    pointwise [pick_frame]
    rw [show (2#32 : BitVec 32) = BitVec.ofNat 32 2 from rfl, word_slt _ _ (by omega) (by omega)]
    split
    · refine Eq.trans ?_ (h11 ⟨g, hk⟩)
      change A_main_v11 (F := Ideal) a0 a1 _ = _
      congr 2
      apply Fin.ext
      dsimp only
      rw [h5 k g hk hl, small_toInt _ (by omega)]
      omega
    · exact low_word
  refine ⟨rfl, fun j hj => ?_, fun j hj => ?_, fun k => ?_, hx, hn, fun j hj => ?_, fun j hj => ?_, hE,
    fun j hj => ⟨(hg ⟨j, by omega⟩).2.1, hO j hj⟩, hw⟩
  · refine (h16 _ 0 (by omega) (hE j hj)).trans ?_
    change _ = lg (if j = 0 then Real.exp (U.x 0 0) else 0)
    by_cases h : j = 0
    · rw [if_pos h, if_pos (by dsimp only; omega), lg_exp]
    · rw [if_neg h, if_neg (by dsimp only; omega), lg_zero]
  · refine (h16 _ _ (hg ⟨j, by omega⟩).2.1 (hO j hj)).trans ?_
    change _ = lg (if j = 0 then Real.exp (U.x 0 (U.g 0)) else 0)
    by_cases h : j = 0
    · subst h; rw [if_pos rfl, if_pos (by dsimp only; omega), lg_exp]
    · rw [if_neg h, if_neg (by dsimp only; omega), lg_zero]
  · refine (h11 k).trans ?_
    change _ = ((Real.log (Real.exp (U.x 0 k)) : ℝ) : EReal)
    rw [Real.log_exp]
  · refine (h7 _).trans ?_
    rw [hE j hj]
    exact BitVec.zero_and
  · refine (h7 _).trans ?_
    obtain ⟨h1, h1', -⟩ : 1 ≤ U.g (j + 1) ∧ U.g (j + 1) < 128 ∧ _ := hg ⟨j + 1, by omega⟩
    obtain ⟨-, h0, -⟩ : 1 ≤ U.g j ∧ U.g j < 128 ∧ _ := hg ⟨j, by omega⟩
    rw [dif_neg (by dsimp only; omega), hO (j + 1) hj,
      show A_main_v0 (F := Ideal) a0 a1 (ix2 b ⟨2 * (j + 1) + 1 - 2, by omega⟩) = _ from hO j (by omega),
      show (0#32 : BitVec 32) = BitVec.ofNat 32 0 from rfl, word_ne _ _ (by omega) (by omega), word_ne _ _ (by omega) (by omega)]
    rw [if_neg (by omega)]
    by_cases he : U.g (j + 1) = U.g j
    · rw [if_pos he, if_neg (not_not.2 he)]; rfl
    · rw [if_neg he, if_pos he]; rfl

/-- The reference's result from its rows. -/
theorem ref_value (Us : Fin 16 → Utt) (Ls : Fin 16 → ℕ) (h : ∀ b, RefRow (Us b) 2047 b s)
    (a2 a3 : (⟨S16, .i32⟩ : BufTy).Contents (Elt Ideal)) (hL : ∀ b, 1 ≤ Ls b ∧ Ls b ≤ 256)
    (hl : ∀ b, a3 (ix1 b) = BitVec.ofNat 32 (Ls b)) :
    R_main_v54 s a2 a3 (ix2 0 0) = -Ideal.div (∑ b : Fin 16, score (Us b) (Ls b))
      (FloatOps.sitofp (F := Ideal) FTy.f32 (Finset.fold IntOp.addi (0#32) (fun b : Fin 16 => a2 (ix1 b)) Finset.univ)) := by
  have hs : (fun b : Fin 16 => score (Us b) (Ls b)) = fun b => lg ((num (Us b) 2047).1 (Ls b) + (num (Us b) 2047).2 (Ls b - 1))
      - ((Real.log (∑ j : Fin 128, den (Us b) 2047 j) : ℝ) : EReal) := rfl
  have h2 : ∀ b, IntOp.muli (2#32) (a3 (ix1 b)) = BitVec.ofNat 32 (2 * Ls b) := by
    intro b
    rw [hl b, BitVec.ofNat_mul]; rfl
  have h3 : ∀ b, IntOp.subi (BitVec.ofNat 32 (2 * Ls b)) 1#32 = BitVec.ofNat 32 (2 * Ls b - 1) := by
    intro b
    have hb := hL b
    obtain ⟨n, hn⟩ : ∃ n, 2 * Ls b = n + 1 := ⟨2 * Ls b - 1, by omega⟩
    rw [hn, BitVec.ofNat_add n 1]
    exact BitVec.add_sub_cancel _ _
  have hd : ∀ b, Ideal.log (∑ i, Ideal.exp (s.main_v17_10 (ix2 b i) -
        Finset.fold max (⊥ : EReal) (fun i => s.main_v17_10 (ix2 b i)) Finset.univ))
      + Finset.fold max (⊥ : EReal) (fun i => s.main_v17_10 (ix2 b i)) Finset.univ
      = ((Real.log (∑ i : Fin 128, den (Us b) 2047 i) : ℝ) : EReal) := by
    intro b
    simp only [(h b).d]
    exact lse_all fun i => den_pos _ _ _
  have hp : ∀ b (y : BitVec 32) (f : ℕ) (hf : f ≤ 512) (k : Fin 513), k.val = f →
      s.main_v17_9 (ix2 b ⟨min (Scalar.select (IntOp.cmpi .slt (BitVec.ofNat 32 f) 0#32) y (BitVec.ofNat 32 f)).toInt.toNat 512, by omega⟩)
        = s.main_v17_9 (ix2 b k) := by
    intro b y f hf k hk
    congr 2
    apply Fin.ext
    dsimp only
    rw [keep_word _ (by omega), small_toInt _ (by omega)]
    omega
  rw [hs]
  unfold R_main_v54
  pointwise [pick_state]
  simp only [low_word, hd, h2, h3]
  congr 2
  refine Finset.sum_congr rfl fun b _ => ?_
  have hb := hL b
  rw [hp b _ (2 * Ls b) (by omega) ⟨2 * Ls b, by omega⟩ rfl,
    hp b _ (2 * Ls b - 1) (by omega) ⟨2 * (Ls b - 1) + 1, by omega⟩ (by dsimp only; omega),
    (h b).e (Ls b) (by omega), (h b).o (Ls b - 1) (by omega), lae_ref ((num_nonneg _ _).1 _) ((num_nonneg _ _).2 _)]

end Cert.Ctc

end
-- ==== Proof.Drawn.lean ====
/-
What the precondition says of the arguments.
-/
module
public import proofs.«01_k».proof.Defs
public import proofs.«01_k».proof.Proof.Inputs
public import proofs.«01_k».proof.Proof.Reference

@[expose] public section

set_option maxRecDepth 65536
set_option maxHeartbeats 1000000

noncomputable section

namespace Cert.Ctc

open Idealize.ShloMosaic Idealize.ShloMosaic.TcCoe Idealize.ShloMosaic.Tactic

/-- The side conditions of the precondition's own operations. -/
theorem drawn_facts : Cert.Pre_drawn.Facts where
  bcast_S_S16x2048x128 := by decide
  bcast_S_S16x256 := by decide
  bcast_S_S16 := by decide
  bcast_S_S128x128 := by decide

theorem and_one {x y : BitVec 1} (h : IntOp.andi x y = 1#1) : x = 1#1 ∧ y = 1#1 := by
  revert x y; decide

theorem bool_one {p : Bool} (h : BitVec.ofBool p = 1#1) : p = true := by
  revert p; decide

/-- The word for plus infinity. -/
theorem high_word : Ideal.ofBits FTy.f32 2139095040#32 = ⊤ := by
  simp [Ideal.ofBits, Ideal.ieee]

/-- A number strictly between the two infinities is finite. -/
theorem finite_of {x : Ideal .f32} (h : IntOp.andi (Ideal.cmp .ogt x (Ideal.ofBits FTy.f32 4286578688#32))
    (Ideal.cmp .olt x (Ideal.ofBits FTy.f32 2139095040#32)) = 1#1) : x ≠ (⊤ : EReal) ∧ x ≠ (⊥ : EReal) := by
  obtain ⟨h1, h2⟩ := and_one h
  rw [low_word] at h1
  rw [high_word] at h2
  refine ⟨fun e => ?_, fun e => ?_⟩
  · rw [e] at h2
    simp [Ideal.cmp] at h2
  · rw [e] at h1
    simp [Ideal.cmp] at h1

/-- A word compared, signed, with small bounds is as large as its unsigned value says. -/
theorem range_of {v : BitVec 32} {lo hi : ℕ} (hlo : lo < 2 ^ 31) (hhi : hi < 2 ^ 31)
    (h1 : (BitVec.ofNat 32 lo).sle v = true) (h2 : v.sle (BitVec.ofNat 32 hi) = true) : lo ≤ v.toNat ∧ v.toNat ≤ hi := by
  rw [BitVec.sle_iff_toInt_le, small_toInt _ hlo] at h1
  rw [BitVec.sle_iff_toInt_le, small_toInt _ hhi] at h2
  rw [BitVec.toInt_eq_toNat_cond] at h1 h2
  have := v.isLt
  split at h1 <;> omega

variable {a0 : FVec Ideal Cert.KernelIdeal.S16x2048x128 .f32} {a1 : IVec Cert.KernelIdeal.S16x256 32}
  {a2 a3 : IVec Cert.KernelIdeal.S16 32} {a4 : FVec Ideal Cert.KernelIdeal.S128x128 .f32}

/-- Arguments the precondition admits fit. -/
theorem fits_of [Cert.Pre_drawn.Facts]
    (h : (Cert.Pre_drawn.fn (F := Ideal) a0 a1 a2 a3 a4).1 = (fun _ => 1#1)
      ∧ (Cert.Pre_drawn.fn (F := Ideal) a0 a1 a2 a3 a4).2.1 = (fun _ => 1#1)
      ∧ (Cert.Pre_drawn.fn (F := Ideal) a0 a1 a2 a3 a4).2.2.1 = (fun _ => 1#1)
      ∧ (Cert.Pre_drawn.fn (F := Ideal) a0 a1 a2 a3 a4).2.2.2.1 = (fun _ => 1#1)
      ∧ (Cert.Pre_drawn.fn (F := Ideal) a0 a1 a2 a3 a4).2.2.2.2 = (fun _ => 1#1)) : Fits a0 a1 a2 a3 a4 := by
  obtain ⟨hx, hg, hn, hl, hw⟩ := h
  unfold Cert.Pre_drawn.fn Cert.Pre_drawn.fn_part1 at hx hg hn hl hw
  refine ⟨fun b r k => finite_of (congrFun hx (ix3 b r k)), fun b j => ?_, fun b => ?_, fun b => ?_,
    fun i j => finite_of (congrFun hw (ix2 i j))⟩
  · obtain ⟨h1, h2⟩ := and_one (congrFun hg (ix2 b j))
    have h3 : (a1 (ix2 b j)).slt (BitVec.ofNat 32 128) = true := bool_one h2
    have h4 : (a1 (ix2 b j)).sle (BitVec.ofNat 32 127) = true := by
      rw [BitVec.slt_iff_toInt_lt, small_toInt _ (by norm_num)] at h3
      rw [BitVec.sle_iff_toInt_le, small_toInt _ (by norm_num)]
      omega
    have h5 := range_of (lo := 1) (by norm_num) (by norm_num) (bool_one h1) h4
    omega
  · obtain ⟨h1, h2⟩ := and_one (congrFun hn (ix1 b))
    exact range_of (by norm_num) (by norm_num) (bool_one h1) (bool_one h2)
  · obtain ⟨h1, h2⟩ := and_one (congrFun hl (ix1 b))
    have h3 := range_of (lo := 64) (hi := 256) (by norm_num) (by norm_num) (bool_one h1) (bool_one h2)
    omega

end Cert.Ctc

end
-- ==== Proof.Equal.lean ====
/-
The two idealized programs leave the same scalar.
-/
module
public import proofs.«01_k».proof.Proof.Fold
public import proofs.«01_k».proof.Proof.Drawn
public import proofs.«01_k».proof.Proof.Gen.ReferenceIdeal.StepRun

@[expose] public section

set_option maxRecDepth 65536
set_option maxHeartbeats 1000000

noncomputable section

namespace Cert.Ctc

open Idealize.ShloMosaic Idealize.ShloMosaic.TcCoe Idealize.ShloMosaic.Tactic Idealize.SL.Sem

/-- Words added up one after another are the word of the sum. -/
theorem fold_words (n : Fin 16 → ℕ) (s : Finset (Fin 16)) :
    Finset.fold IntOp.addi (0#32) (fun b => BitVec.ofNat 32 (n b)) s = BitVec.ofNat 32 (∑ b ∈ s, n b) := by
  induction s using Finset.induction_on with
  | empty => rfl
  | insert b s hb ih =>
    rw [Finset.fold_insert hb, ih, Finset.sum_insert hb, BitVec.ofNat_add]
    rfl

/-- The kernel adds the lengths as numbers, the reference as words. -/
theorem frame_count (a2 : Fin 16 → BitVec 32) (h : ∀ b, 1024 ≤ (a2 b).toNat ∧ (a2 b).toNat ≤ 2048) :
    ∃ r : ℝ, r ≠ 0 ∧ (∑ b : Fin 16, (((a2 b).toInt : ℝ) : EReal)) = (r : EReal) ∧
      FloatOps.sitofp (F := Ideal) FTy.f32 (Finset.fold IntOp.addi (0#32) a2 Finset.univ) = (r : EReal) := by
  have e : a2 = fun b => BitVec.ofNat 32 (a2 b).toNat := funext fun b => word_self _
  have hi : ∀ b, (a2 b).toInt = ((a2 b).toNat : ℤ) := fun b =>
    BitVec.toInt_eq_toNat_of_lt (by have := h b; omega)
  have hs : ∑ b : Fin 16, (a2 b).toNat ≤ 16 * 2048 := by
    simpa using Finset.sum_le_card_nsmul Finset.univ (fun b => (a2 b).toNat) 2048 fun b _ => (h b).2
  have hp : 1024 ≤ ∑ b : Fin 16, (a2 b).toNat :=
    (h 0).1.trans (Finset.single_le_sum (f := fun b => (a2 b).toNat) (fun b _ => Nat.zero_le _) (Finset.mem_univ 0))
  refine ⟨((∑ b : Fin 16, (a2 b).toNat : ℕ) : ℝ), by exact_mod_cast (by omega), ?_, ?_⟩
  · rw [Nat.cast_sum, coe_sum]
    refine Finset.sum_congr rfl fun b _ => ?_
    rw [hi b, Int.cast_natCast]
  · rw [e, fold_words (fun b => (a2 b).toNat)]
    change (((BitVec.ofNat 32 (∑ b : Fin 16, (a2 b).toNat)).toInt : ℝ) : EReal) = _
    rw [small_toInt _ (by omega)]
    simp

section
open Cert.ReferenceIdeal Cert.ReferenceIdeal.Step

/-- The reference's state after each frame. -/
def refAt (m : (ℓ : Loc nD τ sig) → Buf (Elt Ideal) ℓ) (c : Dev nD) (t : ℕ) : State Ideal :=
  Nat.rec (Cert.ReferenceIdeal.StepRun.initState m c) (fun t s => step t s) t

theorem refAt_row {U : Utt} {b : Fin 16} (m : (ℓ : Loc nD τ sig) → Buf (Elt Ideal) ℓ) (c : Dev nD)
    (h0 : RefRow U 0 b (refAt m c 0)) (hn : U.n ≤ 2048) (t : ℕ) (ht : t < 2048) : RefRow U t b (refAt m c t) := by
  induction t with
  | zero => exact h0
  | succ t ih => exact (ih (by omega)).next ht hn

/-- The reference's result, of arguments that fit. -/
theorem ref_total {a0 : FVec Ideal S16x2048x128 .f32} {a1 : IVec S16x256 32} {a2 a3 : IVec S16 32}
    {a4 : FVec Ideal S128x128 .f32} (h : Fits a0 a1 a2 a3 a4)
    (m : (ℓ : Loc nD τ sig) → Buf (Elt Ideal) ℓ) (c : Dev nD)
    (h0 : m (c.tc.loc main_arg0) = a0) (h1 : m (c.tc.loc main_arg1) = a1) (h2 : m (c.tc.loc main_arg2) = a2)
    (h4 : m (c.tc.loc main_arg4) = a4) :
    R_main_v54 (refAt m c 2047) a2 a3 (ix2 0 0) =
      -Ideal.div (∑ b : Fin 16, score (uttOf a0 a1 a2 a4 b) (a3 (ix1 b)).toNat)
      (FloatOps.sitofp (F := Ideal) FTy.f32 (Finset.fold IntOp.addi (0#32) (fun b : Fin 16 => a2 (ix1 b)) Finset.univ)) := by
  refine ref_value (uttOf a0 a1 a2 a4) (fun b => (a3 (ix1 b)).toNat) (fun b => ?_) a2 a3 h.l (fun b => word_self _)
  refine refAt_row m c ?_ (h.n b).2 2047 (by norm_num)
  change RefRow _ 0 b (init (F := Ideal) (m (c.tc.loc main_arg0)) (m (c.tc.loc main_arg2)) (m (c.tc.loc main_arg4))
    (m (c.tc.loc main_arg1)))
  rw [h0, h1, h2, h4]
  exact refRow_init a0 a1 a2 a4 (h.x_eq b) (h.g_eq b) (n_eq b) (h.w_eq b)

end

/-- Two one-element arrays with the same element are the same. -/
theorem scalar_ext {u v : FVec Ideal Cert.KernelIdeal.S1x1 .f32} (h : u (ix2 0 0) = v (ix2 0 0)) : u = v := by
  funext i
  have e : i = ix2 0 0 := by
    funext a
    match a with
    | ⟨0, _⟩ => exact Subsingleton.elim (α := Fin 1) _ _
    | ⟨1, _⟩ => exact Subsingleton.elim (α := Fin 1) _ _
  rw [e, h]

/-- Both programs leave the same scalar. -/
theorem algebraic [Cert.Pre_drawn.Facts] : Cert.algebraic_KernelIdeal_ReferenceIdeal_pre_drawn := by
  intro m g m' g' hpre hargs
  refine ⟨fun c => Cert.KernelIdeal.Value.G5 m c, Cert.KernelIdeal.Value.run m g, ?_⟩
  refine (θ_run _ _ _).mono (fun _ h c => ⟨(h c).1.trans ?_, (h c).2⟩)
    (Cert.ReferenceIdeal.StepRun.run_iter m' g' (refAt m') (fun _ => rfl) (fun _ _ => rfl))
  obtain ⟨h0, h1, h2, h3, h4⟩ := hargs c
  have hf := fits_of (hpre c)
  rw [h2, h3]
  refine scalar_ext ?_
  obtain ⟨r, hr, e1, e2⟩ := frame_count
    (fun b => (m (c.tc.loc Cert.KernelIdeal.main_arg2) : IVec Cert.KernelIdeal.S16 32) (ix1 b)) hf.n
  refine (ref_total hf m' c h0 h1 h2 h4).trans (Eq.trans ?_ (kernel_value m c hf).symm)
  rw [e1, e2, Ideal.div_coe hr, Ideal.div_coe hr, EReal.neg_mul]
  rfl

end Cert.Ctc

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Claims
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  letI := Cert.Ctc.drawn_facts
  ⟨Cert.Kernel.Gen.facts, Cert.KernelIdeal.Gen.facts, Cert.ReferenceIdeal.Gen.facts, Cert.Ctc.drawn_facts,
    Cert.Ctc.frame_p, Cert.Ctc.frame_pi, Cert.Ctc.frame_pi_drawn, Cert.Ctc.frame_ri, Cert.Ctc.frame_ri_drawn,
    Cert.Ctc.preserves, Cert.Ctc.algebraic⟩

end Cert.Proof

end
